-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_destination_is_an_index [hPre_destination_is_an_index : Cert.Pre_destination_is_an_index.Facts] (m : (ℓ : Loc Cert.KernelIdeal.nD Cert.KernelIdeal.τ Cert.KernelIdeal.sig) → Buf (Elt Ideal) ℓ) : Prop :=
  ∀ c : Dev Cert.KernelIdeal.nD,
    (Cert.Pre_destination_is_an_index.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_destination_is_an_index [hPre_destination_is_an_index : Cert.Pre_destination_is_an_index.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_destination_is_an_index.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_destination_is_an_index [hKernelIdeal : Cert.KernelIdeal.Facts] [hPre_destination_is_an_index : Cert.Pre_destination_is_an_index.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_destination_is_an_index m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_destination_is_an_index [hReferenceIdeal : Cert.ReferenceIdeal.Facts] [hPre_destination_is_an_index : Cert.Pre_destination_is_an_index.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_destination_is_an_index m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_destination_is_an_index [hKernelIdeal : Cert.KernelIdeal.Facts] [hReferenceIdeal : Cert.ReferenceIdeal.Facts] [hPre_destination_is_an_index : Cert.Pre_destination_is_an_index.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_destination_is_an_index m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_destination_is_an_index : Cert.Pre_destination_is_an_index.Facts),
    quiescent_Kernel (hKernel := hKernel)
    ∧ quiescent_KernelIdeal (hKernelIdeal := hKernelIdeal)
    ∧ quiescent_KernelIdeal_pre_destination_is_an_index (hKernelIdeal := hKernelIdeal) (hPre_destination_is_an_index := hPre_destination_is_an_index)
    ∧ quiescent_ReferenceIdeal (hReferenceIdeal := hReferenceIdeal)
    ∧ quiescent_ReferenceIdeal_pre_destination_is_an_index (hReferenceIdeal := hReferenceIdeal) (hPre_destination_is_an_index := hPre_destination_is_an_index)
    ∧ preserves_Kernel_KernelIdeal
    ∧ algebraic_KernelIdeal_ReferenceIdeal_pre_destination_is_an_index (hKernelIdeal := hKernelIdeal) (hReferenceIdeal := hReferenceIdeal) (hPre_destination_is_an_index := hPre_destination_is_an_index)
-- ==== Pre_destination_is_an_index.lean ====
abbrev S8192x8192 : Shape := ⟨2, ![8192, 8192]⟩
abbrev S8192x2 : Shape := ⟨2, ![8192, 2]⟩
abbrev S_ : Shape := ⟨0, ![]⟩

class Facts : Prop where

variable [Facts]

def fn {F : FTy → Type} [FloatOps F] (main_arg0 : FVec F S8192x8192 .f32) (main_arg1 : FVec F S8192x8192 .f32) (main_arg2 : FVec F S8192x2 .f32) (main_arg3 : IVec S_ 32) (main_arg4 : IVec S_ 32) : IVec S_ 1 :=
  let main_c : IVec S_ 32 := constantI S_ 32 4294959104#32
  let main_v0 : IVec S_ 1 := cmpi .sge main_arg4 main_c
  let main_c_0 : IVec S_ 32 := constantI S_ 32 8192#32
  let main_v1 : IVec S_ 1 := cmpi .slt main_arg4 main_c_0
  let main_v2 : IVec S_ 1 := andi main_v0 main_v1
  main_v2
-- ==== Kernel.lean ====
abbrev S8192x8192 : Shape := ⟨2, ![8192, 8192]⟩
abbrev S8192x2 : Shape := ⟨2, ![8192, 2]⟩
abbrev S_ : Shape := ⟨0, ![]⟩
abbrev S1 : Shape := ⟨1, ![1]⟩
abbrev S2 : Shape := ⟨1, ![2]⟩
abbrev S1x2 : Shape := ⟨2, ![1, 2]⟩
abbrev S8192 : Shape := ⟨1, ![8192]⟩
abbrev S8192x1 : Shape := ⟨2, ![8192, 1]⟩
abbrev S1x8192 : Shape := ⟨2, ![1, 8192]⟩
abbrev S8x8192 : Shape := ⟨2, ![8, 8192]⟩
abbrev S32x128 : Shape := ⟨2, ![32, 128]⟩
abbrev S1024x1 : Shape := ⟨2, ![1024, 1]⟩
abbrev S1x1024 : Shape := ⟨2, ![1, 1024]⟩
abbrev S1024x1024 : Shape := ⟨2, ![1024, 1024]⟩
abbrev S1024x128 : Shape := ⟨2, ![1024, 128]⟩
abbrev S8x128 : Shape := ⟨2, ![8, 128]⟩
abbrev S1x512 : Shape := ⟨2, ![1, 512]⟩
abbrev S8x512 : Shape := ⟨2, ![8, 512]⟩
abbrev S8x1 : Shape := ⟨2, ![8, 1]⟩
abbrev S1024 : Shape := ⟨1, ![1024]⟩
abbrev S1x128 : Shape := ⟨2, ![1, 128]⟩
abbrev S1x1 : Shape := ⟨2, ![1, 1]⟩
abbrev S128 : Shape := ⟨1, ![128]⟩

abbrev nBuf : Space → Nat
  | .hbm => 41
  | .vmem => 22
  | .smem => 2
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x2, .f32⟩
  | .hbm, ⟨3, _⟩ => ⟨S_, .i32⟩
  | .hbm, ⟨4, _⟩ => ⟨S_, .i32⟩
  | .hbm, ⟨5, _⟩ => ⟨S1, .i32⟩
  | .hbm, ⟨6, _⟩ => ⟨S1, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S1, .i32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S1, .i1⟩
  | .hbm, ⟨18, _⟩ => ⟨S1, .i1⟩
  | .hbm, ⟨19, _⟩ => ⟨S_, .i1⟩
  | .hbm, ⟨20, _⟩ => ⟨S_, .i1⟩
  | .hbm, ⟨21, _⟩ => ⟨S2, .f32⟩
  | .hbm, ⟨22, _⟩ => ⟨S2, .i1⟩
  | .hbm, ⟨23, _⟩ => ⟨S_, .f32⟩
  | .hbm, ⟨24, _⟩ => ⟨S2, .f32⟩
  | .hbm, ⟨25, _⟩ => ⟨S2, .f32⟩
  | .hbm, ⟨26, _⟩ => ⟨S1x2, .f32⟩
  | .hbm, ⟨27, _⟩ => ⟨S8192x2, .f32⟩
  | .hbm, ⟨28, _⟩ => ⟨S8192x2, .f32⟩
  | .hbm, ⟨29, _⟩ => ⟨S8192x2, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S8192x1, .f32⟩
  | .hbm, ⟨34, _⟩ => ⟨S1x8192, .f32⟩
  | .hbm, ⟨35, _⟩ => ⟨S1x8192, .f32⟩
  | .hbm, ⟨36, _⟩ => ⟨S8x8192, .f32⟩
  | .hbm, ⟨37, _⟩ => ⟨S32x128, .f32⟩
  | .hbm, ⟨38, _⟩ => ⟨S1x128, .f32⟩
  | .hbm, ⟨39, _⟩ => ⟨S1x1, .f32⟩
  | .hbm, ⟨40, _⟩ => ⟨S_, .f32⟩
  | .local _ .vmem, ⟨0, _⟩ => ⟨S1024x1, .f32⟩
  | .local _ .vmem, ⟨1, _⟩ => ⟨S1024x1, .f32⟩
  | .local _ .vmem, ⟨2, _⟩ => ⟨S1x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1x1024, .f32⟩
  | .local _ .vmem, ⟨10, _⟩ => ⟨S8x8192, .f32⟩
  | .local _ .vmem, ⟨11, _⟩ => ⟨S32x128, .f32⟩
  | .local _ .vmem, ⟨12, _⟩ => ⟨S8x8192, .f32⟩
  | .local _ .vmem, ⟨13, _⟩ => ⟨S1024x128, .f32⟩
  | .local _ .vmem, ⟨14, _⟩ => ⟨S8x128, .f32⟩
  | .local _ .vmem, ⟨15, _⟩ => ⟨S8x128, .f32⟩
  | .local _ .vmem, ⟨16, _⟩ => ⟨S8x128, .f32⟩
  | .local _ .vmem, ⟨17, _⟩ => ⟨S8x128, .f32⟩
  | .local _ .vmem, ⟨18, _⟩ => ⟨S1x8192, .f32⟩
  | .local _ .vmem, ⟨19, _⟩ => ⟨S8x8192, .f32⟩
  | .local _ .vmem, ⟨20, _⟩ => ⟨S32x128, .f32⟩
  | .local _ .vmem, ⟨21, _⟩ => ⟨S1x128, .f32⟩
  | .local _ .smem, ⟨0, _⟩ => ⟨S1, .i32⟩
  | .local _ .smem, ⟨1, _⟩ => ⟨S1, .i32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_c : Ref sig .tc := ⟨.hbm, 7, rfl⟩
abbrev main_call0_v0 : Ref sig .tc := ⟨.hbm, 8, rfl⟩
abbrev main_call0_c_0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_c_1 : Ref sig .tc := ⟨.hbm, 13, rfl⟩
abbrev main_call0_c_2 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_c_3 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_cst : Ref sig .tc := ⟨.hbm, 23, rfl⟩
abbrev main_call0_v11 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11_0 : Ref sig .tc := ⟨.hbm, 35, rfl⟩
abbrev main_v11_1 : Ref sig .tc := ⟨.hbm, 36, rfl⟩
abbrev main_v11_2 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg0_0 : Ref sig .tc := ⟨.smem, 0, rfl⟩
abbrev cc1_stg1_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc1_sem0_0 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17

abbrev nD : Nat := 1
abbrev τ : Topo := Topo.v7x

variable {F : FTy → Type} [FloatOps F]

abbrev grid0 : Pipeline.Grid := ⟨2, ![8, 8], ![false, false]⟩

def k0_off1 (i : grid0.Coords) (c0_i32_2058 : BitVec 32) : Fin 2 → Nat :=
  let c0_2059 : Index := 0#32
  let arg1 : BitVec 32 := BitVec.ofNat 32 (i 1).val
  let c1024_i32 : BitVec 32 := 1024#32
  let v5265 : BitVec 32 := Scalar.muli arg1 c1024_i32
  let v5266 : BitVec 32 := Scalar.addi v5265 c0_i32_2058
  let v5267 : Index := Scalar.indexCast v5266
  ![0, v5267.toNat]
def k0_cond3 (i : grid0.Coords) : BitVec 1 :=
  let arg1 : BitVec 32 := BitVec.ofNat 32 (i 1).val
  let c7_i32 : BitVec 32 := 7#32
  let v10636 : BitVec 1 := Scalar.cmpi .eq arg1 c7_i32
  let v10637 : BitVec 32 := Scalar.extui v10636
  let c0_i32_4279 : BitVec 32 := 0#32
  let v10638 : BitVec 1 := Scalar.cmpi .ne v10637 c0_i32_4279
  v10638

def k0_cond4 (i : grid0.Coords) : BitVec 1 :=
  let arg0 : BitVec 32 := BitVec.ofNat 32 (i 0).val
  let c7_i32_4280 : BitVec 32 := 7#32
  let v10639 : BitVec 1 := Scalar.cmpi .eq arg0 c7_i32_4280
  let arg1 : BitVec 32 := BitVec.ofNat 32 (i 1).val
  let c7_i32_4281 : BitVec 32 := 7#32
  let v10640 : BitVec 1 := Scalar.cmpi .eq arg1 c7_i32_4281
  let v10641 : BitVec 1 := Scalar.andi v10639 v10640
  let v10642 : BitVec 32 := Scalar.extui v10641
  let c0_i32_4282 : BitVec 32 := 0#32
  let v10643 : BitVec 1 := Scalar.cmpi .ne v10642 c0_i32_4282
  v10643

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S8x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev grid1 : Pipeline.Grid := .none

abbrev stage1_0 : Fin 1 → Memref sig .tc .smem S1 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .smem S1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x8192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S8x8192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S32x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
-- ==== ReferenceIdeal.lean ====
abbrev S8192x8192 : Shape := ⟨2, ![8192, 8192]⟩
abbrev S8192x2 : Shape := ⟨2, ![8192, 2]⟩
abbrev S_ : Shape := ⟨0, ![]⟩
abbrev S8192 : Shape := ⟨1, ![8192]⟩
abbrev S1 : Shape := ⟨1, ![1]⟩
abbrev S1x2 : Shape := ⟨2, ![1, 2]⟩
abbrev S2 : Shape := ⟨1, ![2]⟩
abbrev S8192x1 : Shape := ⟨2, ![8192, 1]⟩
abbrev S1x8192 : Shape := ⟨2, ![1, 8192]⟩

abbrev nBuf : Space → Nat
  | .hbm => 113
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x2, .f32⟩
  | .hbm, ⟨3, _⟩ => ⟨S_, .i32⟩
  | .hbm, ⟨4, _⟩ => ⟨S_, .i32⟩
  | .hbm, ⟨5, _⟩ => ⟨S_, .f32⟩
  | .hbm, ⟨6, _⟩ => ⟨S8192x8192, .f32⟩
  | .hbm, ⟨7, _⟩ => ⟨S8192x8192, .i1⟩
  | .hbm, ⟨8, _⟩ => ⟨S8192x8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S1, .i32⟩
  | .hbm, ⟨38, _⟩ => ⟨S8192, .i32⟩
  | .hbm, ⟨39, _⟩ => ⟨S8192, .i32⟩
  | .hbm, ⟨40, _⟩ => ⟨S8192, .i1⟩
  | .hbm, ⟨41, _⟩ => ⟨S8192, .f32⟩
  | .hbm, ⟨42, _⟩ => ⟨S1, .i32⟩
  | .hbm, ⟨43, _⟩ => ⟨S8192, .i32⟩
  | .hbm, ⟨44, _⟩ => ⟨S8192, .i32⟩
  | .hbm, ⟨45, _⟩ => ⟨S8192, .i1⟩
  | .hbm, ⟨46, _⟩ => ⟨S8192, .f32⟩
  | .hbm, ⟨47, _⟩ => ⟨S8192, .f32⟩
  | .hbm, ⟨48, _⟩ => ⟨S8192, .f32⟩
  | .hbm, ⟨49, _⟩ => ⟨S8192, .f32⟩
  | .hbm, ⟨50, _⟩ => ⟨S8192, .f32⟩
  | .hbm, ⟨51, _⟩ => ⟨S_, .f32⟩
  | .hbm, ⟨52, _⟩ => ⟨S_, .f32⟩
  | .hbm, ⟨53, _⟩ => ⟨S8192x8192, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S8192x8192, .f32⟩
  | .hbm, ⟨58, _⟩ => ⟨S8192x8192, .f32⟩
  | .hbm, ⟨59, _⟩ => ⟨S8192x8192, .f32⟩
  | .hbm, ⟨60, _⟩ => ⟨S_, .f32⟩
  | .hbm, ⟨61, _⟩ => ⟨S_, .f32⟩
  | .hbm, ⟨62, _⟩ => ⟨S_, .i32⟩
  | .hbm, ⟨63, _⟩ => ⟨S_, .i1⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i1⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S1x2, .f32⟩
  | .hbm, ⟨76, _⟩ => ⟨S2, .f32⟩
  | .hbm, ⟨77, _⟩ => ⟨S1x2, .f32⟩
  | .hbm, ⟨78, _⟩ => ⟨S8192x2, .f32⟩
  | .hbm, ⟨79, _⟩ => ⟨S8192x2, .f32⟩
  | .hbm, ⟨80, _⟩ => ⟨S8192x2, .f32⟩
  | .hbm, ⟨81, _⟩ => ⟨S_, .f32⟩
  | .hbm, ⟨82, _⟩ => ⟨S8192, .f32⟩
  | .hbm, ⟨83, _⟩ => ⟨S8192, .f32⟩
  | .hbm, ⟨84, _⟩ => ⟨S8192x1, .f32⟩
  | .hbm, ⟨85, _⟩ => ⟨S1x8192, .f32⟩
  | .hbm, ⟨86, _⟩ => ⟨S8192x8192, .f32⟩
  | .hbm, ⟨87, _⟩ => ⟨S8192x8192, .f32⟩
  | .hbm, ⟨88, _⟩ => ⟨S8192x8192, .f32⟩
  | .hbm, ⟨89, _⟩ => ⟨S_, .f32⟩
  | .hbm, ⟨90, _⟩ => ⟨S8192x8192, .f32⟩
  | .hbm, ⟨91, _⟩ => ⟨S8192x8192, .f32⟩
  | .hbm, ⟨92, _⟩ => ⟨S8192x8192, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_cst_3 : Ref sig .tc := ⟨.hbm, 15, rfl⟩
abbrev main_v6 : Ref sig .tc := ⟨.hbm, 16, rfl⟩
abbrev main_cst_4 : Ref sig .tc := ⟨.hbm, 17, rfl⟩
abbrev main_v7 : Ref sig .tc := ⟨.hbm, 18, rfl⟩
abbrev main_cst_5 : Ref sig .tc := ⟨.hbm, 19, rfl⟩
abbrev main_v8 : Ref sig .tc := ⟨.hbm, 20, rfl⟩
abbrev main_cst_6 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_7 : Ref sig .tc := ⟨.hbm, 26, rfl⟩
abbrev main_v13 : Ref sig .tc := ⟨.hbm, 27, rfl⟩
abbrev main_v14 : Ref sig .tc := ⟨.hbm, 28, rfl⟩
abbrev main_cst_8 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_9 : Ref sig .tc := ⟨.hbm, 33, rfl⟩
abbrev main_v18 : Ref sig .tc := ⟨.hbm, 34, rfl⟩
abbrev main_cst_10 : Ref sig .tc := ⟨.hbm, 35, rfl⟩
abbrev main_v19 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_v20 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_11 : Ref sig .tc := ⟨.hbm, 51, rfl⟩
abbrev main_v26 : Ref sig .tc := ⟨.hbm, 52, rfl⟩
abbrev main_v27 : Ref sig .tc := ⟨.hbm, 53, rfl⟩
abbrev main_cst_12 : Ref sig .tc := ⟨.hbm, 54, rfl⟩
abbrev main_v28 : Ref sig .tc := ⟨.hbm, 55, rfl⟩
abbrev main_cst_13 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_14 : Ref sig .tc := ⟨.hbm, 60, rfl⟩
abbrev main_v32 : Ref sig .tc := ⟨.hbm, 61, rfl⟩
abbrev main_c : Ref sig .tc := ⟨.hbm, 62, rfl⟩
abbrev main_v33 : Ref sig .tc := ⟨.hbm, 63, rfl⟩
abbrev main_c_15 : Ref sig .tc := ⟨.hbm, 64, rfl⟩
abbrev main_v34 : Ref sig .tc := ⟨.hbm, 65, rfl⟩
abbrev main_v35 : Ref sig .tc := ⟨.hbm, 66, rfl⟩
abbrev main_c_16 : Ref sig .tc := ⟨.hbm, 67, rfl⟩
abbrev main_c_17 : Ref sig .tc := ⟨.hbm, 68, rfl⟩
abbrev main_v36 : Ref sig .tc := ⟨.hbm, 69, rfl⟩
abbrev main_c_18 : Ref sig .tc := ⟨.hbm, 70, rfl⟩
abbrev main_c_19 : Ref sig .tc := ⟨.hbm, 71, rfl⟩
abbrev main_v37 : Ref sig .tc := ⟨.hbm, 72, rfl⟩
abbrev main_c_20 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_call2_v0 : Ref sig .tc := ⟨.hbm, 80, rfl⟩
abbrev main_call2_cst : Ref sig .tc := ⟨.hbm, 81, rfl⟩
abbrev main_call2_v1 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_cst_21 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_22 : Ref sig .tc := ⟨.hbm, 93, rfl⟩
abbrev main_v53 : Ref sig .tc := ⟨.hbm, 94, rfl⟩
abbrev main_cst_23 : Ref sig .tc := ⟨.hbm, 95, rfl⟩
abbrev main_v54 : Ref sig .tc := ⟨.hbm, 96, rfl⟩
abbrev main_cst_24 : Ref sig .tc := ⟨.hbm, 97, rfl⟩
abbrev main_v55 : Ref sig .tc := ⟨.hbm, 98, rfl⟩
abbrev main_cst_25 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_cst_26 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_cst_27 : Ref sig .tc := ⟨.hbm, 107, rfl⟩
abbrev main_v62 : Ref sig .tc := ⟨.hbm, 108, rfl⟩
abbrev main_v63 : Ref sig .tc := ⟨.hbm, 109, rfl⟩
abbrev main_cst_28 : Ref sig .tc := ⟨.hbm, 110, rfl⟩
abbrev main_v64 : Ref sig .tc := ⟨.hbm, 111, rfl⟩
abbrev main_v65 : Ref sig .tc := ⟨.hbm, 112, rfl⟩

abbrev nD : Nat := 1
abbrev τ : Topo := Topo.v7x

variable {F : FTy → Type} [FloatOps F]
-- ==== Proof.Access.lean ====
/-
  Loads and stores of a memref held at values.

  `owns c m q X` says that core `c` holds the memref `m` and reads `X` through it. A load at a unit-stride
  rectangle reads a window of `X` and leaves it held at `X`; a store there leaves it held at `X` with the
  stored values put over that window.
-/
module

public import Idealize.ShloMosaic.Lib.VecWindow

@[expose] public section

noncomputable section

namespace Cert.KernelIdeal.Hopfield

open Idealize.ShloMosaic
open Idealize.SL Idealize.SL.RA Idealize.SL.BI
open scoped Idealize.SL.BI
open Idealize.SL.BI.BIBase Idealize.SL.BI.Laws Idealize.SL.ProofMode Idealize.SL.Sem

section

variable {nD : Nat} {τ : Topo} {sig : RefSig} {Ix : Type} [DecidableEq Ix] {Val : EltTy → Type}
variable {U : Type} [URA U] {Lvl : Type} [Preorder Lvl] {Λ : Labels} {α : Type}
variable {defs : Defs nD τ sig Val Λ} {𝒱 : Variants} {c : Thread nD τ} {bd : Option 𝒱.V} {E : Set ℕ}
variable {sp : CoreSpace} {s : Shape} {e : EltTy} {m : Memref sig c.2.kind sp s e}
variable {off size : Fin s.rank → ℕ} {inb : ∀ a, off a + size a ≤ s.size a}

local notation "𝕄" => MT nD τ sig Ix Val ℕ U Lvl

/-- A load reads a window of what the memref holds. -/
theorem owns_load {hl : m.view.LoadsAt (Rect.unit off size inb).toLoadRect} {k : ((Rect.unit off size inb).shape.Idx → Val e) → Prog (TpuEff nD τ sig Val Λ c.2) α}
    {q : PosShare TreeShare} {X : s.Idx → Val e} {Q : α → sProp 𝕄} :
    (owns c m q X : sProp 𝕄)
      ⊢ iprop((owns c m q X -∗ wp frame (wpE defs 𝒱 c bd) E (k (VecWindow.window X off size inb)) Q)
        -∗ wp frame (wpE defs 𝒱 c bd) E (.op (.load m (Rect.unit off size inb).toLoadRect hl) k) Q) := by
  unfold owns
  iintro ⟨%f, %hf, H⟩ Hk
  subst hf
  ihave H := (show (m.view.loc c ↦[m.view.set]{q} f : sProp 𝕄) ⊢ _ from
    wp_load_rect (defs := defs) 𝒱 c bd E (m := m) (r := Rect.unit off size inb) (hl := hl) (k := k) (Q := Q) (S := m.view.set) (f := f) (View.set_slice_subset _ _)) $$ H
  iapply H
  iintro H
  iapply Hk
  iexists f
  isplitr
  · ipureintro; rfl
  · iexact H

/-- A store of every element of a window puts the stored values over it. -/
theorem owns_store {w : (Rect.unit off size inb).shape.Idx → Val e} {hx : (m.access (Rect.unit off size inb)).Stores Finset.univ}
    {hm : (Finset.univ : Finset (Rect.unit off size inb).shape.Idx) = Finset.univ ∨ ∀ a, (Rect.unit off size inb).stride a = 1}
    {k : PUnit → Prog (TpuEff nD τ sig Val Λ c.2) α} {X : s.Idx → Val e} {Q : α → sProp 𝕄} :
    (owns c m fullShare X : sProp 𝕄)
      ⊢ iprop((owns c m fullShare (VecWindow.put X off size w) -∗ wp frame (wpE defs 𝒱 c bd) E (k ⟨⟩) Q)
        -∗ wp frame (wpE defs 𝒱 c bd) E (.op (.store m (Rect.unit off size inb) w Finset.univ hx hm) k) Q) := by
  unfold owns
  iintro ⟨%f, %hf, H⟩ Hk
  subst hf
  ihave H := (show (m.view.loc c ↦[m.view.set]{fullShare} f : sProp 𝕄) ⊢ _ from
    wp_store (defs := defs) 𝒱 c bd E (m := m) (r := Rect.unit off size inb) (w := w) (hx := hx) (hm := hm) (k := k) (Q := Q) (S := m.view.set) (f := f) (View.set_slice_subset _ _)) $$ H
  iapply H
  iintro H
  iapply Hk
  iexists _
  isplitr; swap
  · iexact H
  ipureintro
  exact View.read_writes_cons_put m.view f inb w [] rfl

end

end Cert.KernelIdeal.Hopfield

end
-- ==== Proof.Roll.lean ====
/-
  The first kernel's body, written with its row loop rolled up.

  The printed body visits a 1024 × 1024 block in 2 halves of 512 columns and each half in 128 chunks of
  8 rows, one chunk after another, all 256 of them written out. Here one chunk is a program over its
  number (`chunk`), a half is the list of its chunks (`rows`, `half`), and the printed body is shown to
  be this program (`body_eq`).
-/
module

public import proofs.«01_k».proof.KernelIdeal
public import Idealize.ShloMosaic.Lib.Tactic

@[expose] public section

noncomputable section

namespace Cert.KernelIdeal.Hopfield

open Idealize.ShloMosaic Idealize.SL.Sem Cert.KernelIdeal

variable {F : FTy → Type} [FloatOps F] [Facts]
open Facts₀ Facts

/-- The five running [8, 512] sums of a half. -/
structure Carry (F : FTy → Type) where
  ax : FVec F S8x512 .f32
  ane : FVec F S8x512 .f32
  apc : FVec F S8x512 .f32
  ax2 : FVec F S8x512 .f32
  ah : FVec F S8x512 .f32

/-- The [8, 512] vector of zeros. -/
def zero512 : FVec F S8x512 .f32 := broadcast S8x512 (Scalar.ofBits .f32 0x00000000#32)

/-- All five sums at zero. -/
def Carry.zero : Carry F := ⟨zero512, zero512, zero512, zero512, zero512⟩

/-- Which entries are edges: the distance is below the threshold. -/
def maskV (dm : FVec F S8x512 .f32) : IVec S8x512 1 :=
  cmpf .olt dm (broadcast S8x512 (Scalar.ofBits .f32 0x49742400#32))

/-- The soft path variable of a chunk, zero off the edges. -/
def xV (lg dm : FVec F S8x512 .f32) : FVec F S8x512 .f32 :=
  select (maskV dm)
    (addf (mulf (broadcast S8x512 (Scalar.ofBits .f32 0x3F000000#32)) (tanh lg))
      (broadcast S8x512 (Scalar.ofBits .f32 0x3F000000#32)))
    zero512

/-- One for an edge, zero otherwise. -/
def neV (dm : FVec F S8x512 .f32) : FVec F S8x512 .f32 :=
  select (maskV dm) (broadcast S8x512 (Scalar.ofBits .f32 0x3F800000#32)) zero512

/-- The heuristic term of a chunk. -/
def hV (dc x : FVec F S8x512 .f32) (dr : FVec F S8x1 .f32) : FVec F S8x512 .f32 :=
  mulf x (maximumf (subf (broadcastTo S8x512
      (shapeCast S8x1 (shapeCast S8x1 dr shapeCasts_S8x1_S8x1) shapeCasts_S8x1_S8x1) broadcasts_S8x1_S8x512) dc)
    zero512)

/-- The sums after one more chunk. -/
def Carry.next (dc : FVec F S8x512 .f32) (c : Carry F) (lg dm : FVec F S8x512 .f32) (dr : FVec F S8x1 .f32) : Carry F where
  ax := addf c.ax (xV lg dm)
  ane := addf c.ane (neV dm)
  apc := addf c.apc (mulf dm (xV lg dm))
  ax2 := addf c.ax2 (mulf (xV lg dm) (xV lg dm))
  ah := addf c.ah (hV dc (xV lg dm) dr)

/-- The four lane groups of an [8, 512] vector added up. -/
def fold4 (v : FVec F S8x512 .f32) : FVec F S8x128 .f32 :=
  addf (addf (addf
    (extractStridedSlice S8x128 ![0, 0] v slices_S8x512_o0_0_S8x128)
    (extractStridedSlice S8x128 ![0, 128] v slices_S8x512_o0_128_S8x128))
    (extractStridedSlice S8x128 ![0, 256] v slices_S8x512_o0_256_S8x128))
    (extractStridedSlice S8x128 ![0, 384] v slices_S8x512_o0_384_S8x128)

/-- A chunk of a half lies inside the block. -/
theorem inb_blk (h : Fin 2) (k : Fin 128) : ∀ a, (![8 * k.val, 512 * h.val] : Fin 2 → Nat) a + S8x512.size a ≤ S1024x1024.size a := by
  intro a
  have hk := k.isLt
  have hh := h.isLt
  match a with
  | 0 => show 8 * k.val + 8 ≤ 1024; omega
  | 1 => show 512 * h.val + 512 ≤ 1024; omega

/-- A chunk's row distances lie inside the block's. -/
theorem inb_row (k : Fin 128) : ∀ a, (![8 * k.val, 0] : Fin 2 → Nat) a + S8x1.size a ≤ S1024x1.size a := by
  intro a
  have hk := k.isLt
  match a with
  | 0 => show 8 * k.val + 8 ≤ 1024; omega
  | 1 => show 0 + 1 ≤ 1; omega

/-- A chunk's rows lie inside the rows' buffer. -/
theorem inb_acc (k : Fin 128) : ∀ a, (![8 * k.val, 0] : Fin 2 → Nat) a + S8x128.size a ≤ S1024x128.size a := by
  intro a
  have hk := k.isLt
  match a with
  | 0 => show 8 * k.val + 8 ≤ 1024; omega
  | 1 => show 0 + 128 ≤ 128; omega

/-- A half's column distances lie inside the block's. -/
theorem inb_col (h : Fin 2) : ∀ a, (![0, 512 * h.val] : Fin 2 → Nat) a + S1x512.size a ≤ S1x1024.size a := by
  intro a
  have hh := h.isLt
  match a with
  | 0 => show 0 + 1 ≤ 1; omega
  | 1 => show 512 * h.val + 512 ≤ 1024; omega

/-- Chunk `k` of half `h`: eight rows of the block, read, added into the five sums, and the rows' sums
    added into the rows' scratch buffer. -/
def chunk (arg2 : Memref sig .tc .vmem S1024x1 .f32) (arg4 : Memref sig .tc .vmem S1024x1024 .f32)
    (arg5 : Memref sig .tc .vmem S1024x1024 .f32) (arg10 : Memref sig .tc .vmem S1024x128 .f32)
    (h : Fin 2) (dc : FVec F S8x512 .f32) (k : Fin 128) (c : Carry F) :
    Prog (TpuEff nD τ sig (Elt F) Λ₀ .tc) (Carry F) := do
  let lg : Vec F S8x512 .f32 ← Prog.lift (.load arg4 (Rect.unit (s := S1024x1024) ![8 * k.val, 512 * h.val] S8x512.size (inb_blk h k)).toLoadRect (View.loadsAt_vmem h_S8x512))
  let dm : Vec F S8x512 .f32 ← Prog.lift (.load arg5 (Rect.unit (s := S1024x1024) ![8 * k.val, 512 * h.val] S8x512.size (inb_blk h k)).toLoadRect (View.loadsAt_vmem h_S8x512))
  let dr : Vec F S8x1 .f32 ← Prog.lift (.load arg2 (Rect.unit (s := S1024x1) ![8 * k.val, 0] S8x1.size (inb_row k)).toLoadRect (View.loadsAt_vmem h_S8x1))
  let ra : Vec F S8x128 .f32 ← Prog.lift (.load arg10 (Rect.unit (s := S1024x128) ![8 * k.val, 0] S8x128.size (inb_acc k)).toLoadRect (View.loadsAt_vmem h_S8x128))
  let _rb : Vec F S8x128 .f32 ← Prog.lift (.load arg10 (Rect.unit (s := S1024x128) ![8 * k.val, 0] S8x128.size (inb_acc k)).toLoadRect (View.loadsAt_vmem h_S8x128))
  Prog.lift (.store arg10 (Rect.unit (s := S1024x128) ![8 * k.val, 0] S8x128.size (inb_acc k)) (shapeCast S8x128 (addf ra (fold4 (xV lg dm))) shapeCasts_S8x128_S8x128) Finset.univ (View.stores_vmem_bits_univ h_S8x128 rfl) (.inl rfl))
  pure (c.next dc lg dm dr)

/-- The chunks of a list, one after another. -/
def rows (arg2 : Memref sig .tc .vmem S1024x1 .f32) (arg4 : Memref sig .tc .vmem S1024x1024 .f32)
    (arg5 : Memref sig .tc .vmem S1024x1024 .f32) (arg10 : Memref sig .tc .vmem S1024x128 .f32)
    (h : Fin 2) (dc : FVec F S8x512 .f32) : List (Fin 128) → Carry F → Prog (TpuEff nD τ sig (Elt F) Λ₀ .tc) (Carry F)
  | [], c => pure c
  | k :: l, c => chunk arg2 arg4 arg5 arg10 h dc k c >>= rows arg2 arg4 arg5 arg10 h dc l

/-- An [8, 512] sum folded to [8, 128] and added into an accumulator. -/
def bump (arg : Memref sig .tc .vmem S8x128 .f32) (v : FVec F S8x512 .f32) : Prog (TpuEff nD τ sig (Elt F) Λ₀ .tc) PUnit := do
  let a : Vec F S8x128 .f32 ← Prog.lift (.load arg (Rect.unit (s := S8x128) ![0, 0] S8x128.size inb_S8x128_S8x128_0_0).toLoadRect (View.loadsAt_vmem h_S8x128))
  let _b : Vec F S8x128 .f32 ← Prog.lift (.load arg (Rect.unit (s := S8x128) ![0, 0] S8x128.size inb_S8x128_S8x128_0_0).toLoadRect (View.loadsAt_vmem h_S8x128))
  Prog.lift (.store arg (Rect.unit (s := S8x128) ![0, 0] S8x128.size inb_S8x128_S8x128_0_0) (shapeCast S8x128 (addf a (fold4 v)) shapeCasts_S8x128_S8x128) Finset.univ (View.stores_vmem_bits_univ h_S8x128 rfl) (.inl rfl))

/-- What a half does with its five sums: the column sums go into the columns' scratch buffer at the
    half's columns, the other four into the four accumulators. -/
def flush (i : grid0.Coords) (arg9 : Memref sig .tc .vmem S8x8192 .f32)
    (arg11 arg12 arg13 arg14 : Memref sig .tc .vmem S8x128 .f32) (h : Fin 2) (c : Carry F) :
    Prog (TpuEff nD τ sig (Elt F) Λ₀ .tc) PUnit := do
  let a : Vec F S8x512 .f32 ← Prog.lift (.load arg9 (Rect.unit (s := S8x8192) (k0_off1 i (BitVec.ofNat 32 (512 * h.val))) S8x512.size (k0_off1_inb i h)).toLoadRect (View.loadsAt_vmem h_S8x512))
  let _b : Vec F S8x512 .f32 ← Prog.lift (.load arg9 (Rect.unit (s := S8x8192) (k0_off1 i (BitVec.ofNat 32 (512 * h.val))) S8x512.size (k0_off1_inb i h)).toLoadRect (View.loadsAt_vmem h_S8x512))
  Prog.lift (.store arg9 (Rect.unit (s := S8x8192) (k0_off1 i (BitVec.ofNat 32 (512 * h.val))) S8x512.size (k0_off1_inb i h)) (shapeCast S8x512 (addf a c.ax) shapeCasts_S8x512_S8x512) Finset.univ (View.stores_vmem_bits_univ h_S8x512 rfl) (.inl rfl))
  bump arg11 c.ane
  bump arg12 c.apc
  bump arg13 c.ax2
  bump arg14 c.ah

/-- Half `h` of the block: the columns' distances are read, the chunks visited in order, the sums put away. -/
def half (i : grid0.Coords) (arg2 : Memref sig .tc .vmem S1024x1 .f32) (arg3 : Memref sig .tc .vmem S1x1024 .f32)
    (arg4 : Memref sig .tc .vmem S1024x1024 .f32)
    (arg5 : Memref sig .tc .vmem S1024x1024 .f32) (arg9 : Memref sig .tc .vmem S8x8192 .f32) (arg10 : Memref sig .tc .vmem S1024x128 .f32)
    (arg11 arg12 arg13 arg14 : Memref sig .tc .vmem S8x128 .f32)
    (h : Fin 2) : Prog (TpuEff nD τ sig (Elt F) Λ₀ .tc) PUnit := do
  let d : Vec F S1x512 .f32 ← Prog.lift (.load arg3 (Rect.unit (s := S1x1024) ![0, 512 * h.val] S1x512.size (inb_col h)).toLoadRect (View.loadsAt_vmem h_S1x512))
  let c ← rows arg2 arg4 arg5 arg10 h
    (broadcastTo S8x512 (shapeCast S1x512 (shapeCast S1x512 d shapeCasts_S1x512_S1x512) shapeCasts_S1x512_S1x512) broadcasts_S1x512_S8x512)
    (List.finRange 128) Carry.zero
  flush i arg9 arg11 arg12 arg13 arg14 h c

/-- A buffer overwritten by zeros. -/
def clear8 (arg : Memref sig .tc .vmem S8x128 .f32) : Prog (TpuEff nD τ sig (Elt F) Λ₀ .tc) PUnit := do
  let _b : Vec F S8x128 .f32 ← Prog.lift (.load arg (Rect.unit (s := S8x128) ![0, 0] S8x128.size inb_S8x128_S8x128_0_0).toLoadRect (View.loadsAt_vmem h_S8x128))
  Prog.lift (.store arg (Rect.unit (s := S8x128) ![0, 0] S8x128.size inb_S8x128_S8x128_0_0) (shapeCast S8x128 (broadcast S8x128 (Scalar.ofBits .f32 0x00000000#32 : F .f32)) shapeCasts_S8x128_S8x128) Finset.univ (View.stores_vmem_bits_univ h_S8x128 rfl) (.inl rfl))

/-- At the first point of the grid the columns' buffer and the four accumulators are cleared. -/
def initAll (arg9 : Memref sig .tc .vmem S8x8192 .f32)
    (arg11 arg12 arg13 arg14 : Memref sig .tc .vmem S8x128 .f32) : Prog (TpuEff nD τ sig (Elt F) Λ₀ .tc) PUnit := do
  let _b : Vec F S8x8192 .f32 ← Prog.lift (.load arg9 (Rect.unit (s := S8x8192) ![0, 0] S8x8192.size inb_S8x8192_S8x8192_0_0).toLoadRect (View.loadsAt_vmem h_S8x8192))
  Prog.lift (.store arg9 (Rect.unit (s := S8x8192) ![0, 0] S8x8192.size inb_S8x8192_S8x8192_0_0) (shapeCast S8x8192 (broadcast S8x8192 (Scalar.ofBits .f32 0x00000000#32 : F .f32)) shapeCasts_S8x8192_S8x8192) Finset.univ (View.stores_vmem_bits_univ h_S8x8192 rfl) (.inl rfl))
  clear8 arg11
  clear8 arg12
  clear8 arg13
  clear8 arg14

/-- At the first point of a row of blocks the rows' buffer is cleared. -/
def initRows (arg10 : Memref sig .tc .vmem S1024x128 .f32) : Prog (TpuEff nD τ sig (Elt F) Λ₀ .tc) PUnit := do
  let _b : Vec F S1024x128 .f32 ← Prog.lift (.load arg10 (Rect.unit (s := S1024x128) ![0, 0] S1024x128.size inb_S1024x128_S1024x128_0_0).toLoadRect (View.loadsAt_vmem h_S1024x128))
  Prog.lift (.store arg10 (Rect.unit (s := S1024x128) ![0, 0] S1024x128.size inb_S1024x128_S1024x128_0_0) (shapeCast S1024x128 (broadcast S1024x128 (Scalar.ofBits .f32 0x00000000#32 : F .f32)) shapeCasts_S1024x128_S1024x128) Finset.univ (View.stores_vmem_bits_univ h_S1024x128 rfl) (.inl rfl))

/-- At the last point of a row of blocks the rows' sums are put out. -/
def emitRows (arg6 : Memref sig .tc .vmem S1x1024 .f32) (arg10 : Memref sig .tc .vmem S1024x128 .f32) : Prog (TpuEff nD τ sig (Elt F) Λ₀ .tc) PUnit := do
  let r : Vec F S1024x128 .f32 ← Prog.lift (.load arg10 (Rect.unit (s := S1024x128) ![0, 0] S1024x128.size inb_S1024x128_S1024x128_0_0).toLoadRect (View.loadsAt_vmem h_S1024x128))
  let _b : Vec F S1x1024 .f32 ← Prog.lift (.load arg6 (Rect.unit (s := S1x1024) ![0, 0] S1x1024.size inb_S1x1024_S1x1024_0_0).toLoadRect (View.loadsAt_vmem h_S1x1024))
  Prog.lift (.store arg6 (Rect.unit (s := S1x1024) ![0, 0] S1x1024.size inb_S1x1024_S1x1024_0_0)
    (transpose S1x1024 [1, 0] (shapeCast S1024x1 (multiReduction .add [1] S1024 r 0x00000000#32 reduces_S1024x128_S1024 (.inl rfl) rfl) shapeCasts_S1024_S1024x1) transposes_S1024x1_p1_0_S1x1024)
    Finset.univ (View.stores_vmem_bits_univ h_S1x1024 rfl) (.inl rfl))

/-- Each accumulator's place lies inside the accumulators' array. -/
theorem inb_out (j : Fin 4) : ∀ a, (![8 * j.val, 0] : Fin 2 → Nat) a + S8x128.size a ≤ S32x128.size a := by
  intro a
  have hk := j.isLt
  match a with
  | 0 => show 8 * j.val + 8 ≤ 32; omega
  | 1 => show 0 + 128 ≤ 128; omega

/-- An accumulator copied into its eight rows of the result. -/
def copy8 (arg8 : Memref sig .tc .vmem S32x128 .f32) (j : Fin 4) (arg : Memref sig .tc .vmem S8x128 .f32) : Prog (TpuEff nD τ sig (Elt F) Λ₀ .tc) PUnit := do
  let r : Vec F S8x128 .f32 ← Prog.lift (.load arg (Rect.unit (s := S8x128) ![0, 0] S8x128.size inb_S8x128_S8x128_0_0).toLoadRect (View.loadsAt_vmem h_S8x128))
  let _b : Vec F S8x128 .f32 ← Prog.lift (.load arg8 (Rect.unit (s := S32x128) ![8 * j.val, 0] S8x128.size (inb_out j)).toLoadRect (View.loadsAt_vmem h_S8x128))
  Prog.lift (.store arg8 (Rect.unit (s := S32x128) ![8 * j.val, 0] S8x128.size (inb_out j)) r Finset.univ (View.stores_vmem_bits_univ h_S8x128 rfl) (.inl rfl))

/-- At the last point of the grid the columns' buffer and the accumulators are put out. -/
def emitAll (arg7 : Memref sig .tc .vmem S8x8192 .f32) (arg8 : Memref sig .tc .vmem S32x128 .f32) (arg9 : Memref sig .tc .vmem S8x8192 .f32)
    (arg11 arg12 arg13 arg14 : Memref sig .tc .vmem S8x128 .f32) : Prog (TpuEff nD τ sig (Elt F) Λ₀ .tc) PUnit := do
  let r : Vec F S8x8192 .f32 ← Prog.lift (.load arg9 (Rect.unit (s := S8x8192) ![0, 0] S8x8192.size inb_S8x8192_S8x8192_0_0).toLoadRect (View.loadsAt_vmem h_S8x8192))
  let _b : Vec F S8x8192 .f32 ← Prog.lift (.load arg7 (Rect.unit (s := S8x8192) ![0, 0] S8x8192.size inb_S8x8192_S8x8192_0_0).toLoadRect (View.loadsAt_vmem h_S8x8192))
  Prog.lift (.store arg7 (Rect.unit (s := S8x8192) ![0, 0] S8x8192.size inb_S8x8192_S8x8192_0_0) r Finset.univ (View.stores_vmem_bits_univ h_S8x8192 rfl) (.inl rfl))
  copy8 arg8 0 arg11
  copy8 arg8 1 arg12
  copy8 arg8 2 arg13
  copy8 arg8 3 arg14

/-- Whether a point is the first of the grid, as the kernel computes it. -/
def condA (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

/-- Whether a point is the first of a row of blocks, as the kernel computes it. -/
def condB (i : grid0.Coords) : BitVec 1 :=
  Scalar.cmpi .ne (Scalar.extui (Scalar.cmpi .eq (BitVec.ofNat 32 (i 1).val) 0#32) : BitVec 32) 0#32

/-- The body, rolled up. -/
def body (i : grid0.Coords) (arg2 : Memref sig .tc .vmem S1024x1 .f32) (arg3 : Memref sig .tc .vmem S1x1024 .f32)
    (arg4 : Memref sig .tc .vmem S1024x1024 .f32) (arg5 : Memref sig .tc .vmem S1024x1024 .f32)
    (arg6 : Memref sig .tc .vmem S1x1024 .f32) (arg7 : Memref sig .tc .vmem S8x8192 .f32) (arg8 : Memref sig .tc .vmem S32x128 .f32)
    (arg9 : Memref sig .tc .vmem S8x8192 .f32) (arg10 : Memref sig .tc .vmem S1024x128 .f32)
    (arg11 arg12 arg13 arg14 : Memref sig .tc .vmem S8x128 .f32) : Prog (TpuEff nD τ sig (Elt F) Λ₀ .tc) PUnit :=
  (if condA i = 1#1 then initAll arg9 arg11 arg12 arg13 arg14 else pure ⟨⟩) >>= fun _ =>
  (if condB i = 1#1 then initRows arg10 else pure ⟨⟩) >>= fun _ =>
  half i arg2 arg3 arg4 arg5 arg9 arg10 arg11 arg12 arg13 arg14 0 >>= fun _ =>
  half i arg2 arg3 arg4 arg5 arg9 arg10 arg11 arg12 arg13 arg14 1 >>= fun _ =>
  (if k0_cond3 i = 1#1 then emitRows arg6 arg10 else pure ⟨⟩) >>= fun _ =>
  (if k0_cond4 i = 1#1 then emitAll arg7 arg8 arg9 arg11 arg12 arg13 arg14 else pure ⟨⟩)

/-- The end of the body: the two results that are put out once the sums are complete. -/
def ends (i : grid0.Coords) (arg6 : Memref sig .tc .vmem S1x1024 .f32) (arg7 : Memref sig .tc .vmem S8x8192 .f32) (arg8 : Memref sig .tc .vmem S32x128 .f32)
    (arg9 : Memref sig .tc .vmem S8x8192 .f32) (arg10 : Memref sig .tc .vmem S1024x128 .f32)
    (arg11 arg12 arg13 arg14 : Memref sig .tc .vmem S8x128 .f32) : Prog (TpuEff nD τ sig (Elt F) Λ₀ .tc) PUnit := do
  if _h3 : k0_cond3 i = 1#1 then do
    emitRows (F := F) arg6 arg10
  else do
    pure ⟨⟩
  if _h4 : k0_cond4 i = 1#1 then do
    emitAll (F := F) arg7 arg8 arg9 arg11 arg12 arg13 arg14
  else do
    pure ⟨⟩
  pure ⟨⟩

/-- The start of the body's first half: the columns' distances and the first chunk's first values. -/
def start (i : grid0.Coords) (arg3 : Memref sig .tc .vmem S1x1024 .f32)
    (arg4 : Memref sig .tc .vmem S1024x1024 .f32) (arg5 : Memref sig .tc .vmem S1024x1024 .f32) :
    Prog (TpuEff nD τ sig (Elt F) Λ₀ .tc) (Σ' (arg0 : BitVec 32) (arg1 : BitVec 32) (v11 : FVec F S8x512 .f32) (v14 : FVec F S8x512 .f32) (v15 : FVec F S8x512 .f32) (v16 : FVec F S8x512 .f32) (v27 : FVec F S8x512 .f32) (v28 : FVec F S8x512 .f32) (v32 : FVec F S8x512 .f32), FVec F S8x512 .f32) := do
  let d : Vec F S1x512 .f32 ← Prog.lift (.load arg3 (Rect.unit (s := S1x1024) ![0, 0] S1x512.size inb_S1x1024_S1x512_0_0).toLoadRect (View.loadsAt_vmem h_S1x512))
  let lg : Vec F S8x512 .f32 ← Prog.lift (.load arg4 (Rect.unit (s := S1024x1024) ![0, 0] S8x512.size inb_S1024x1024_S8x512_0_0).toLoadRect (View.loadsAt_vmem h_S8x512))
  let dm : Vec F S8x512 .f32 ← Prog.lift (.load arg5 (Rect.unit (s := S1024x1024) ![0, 0] S8x512.size inb_S1024x1024_S8x512_0_0).toLoadRect (View.loadsAt_vmem h_S8x512))
  pure ⟨BitVec.ofNat 32 (i 0).val, BitVec.ofNat 32 (i 1).val,
    broadcastTo S8x512 (shapeCast S1x512 (shapeCast S1x512 d shapeCasts_S1x512_S1x512) shapeCasts_S1x512_S1x512) broadcasts_S1x512_S8x512,
    zero512, zero512, zero512, xV lg dm, addf zero512 (xV lg dm), addf zero512 (neV dm), mulf dm (xV lg dm)⟩

/-- The printed body's first window: the two resets and the start of the first half. -/
def begins (i : grid0.Coords) (arg3 : Memref sig .tc .vmem S1x1024 .f32)
    (arg4 : Memref sig .tc .vmem S1024x1024 .f32) (arg5 : Memref sig .tc .vmem S1024x1024 .f32)
    (arg9 : Memref sig .tc .vmem S8x8192 .f32) (arg10 : Memref sig .tc .vmem S1024x128 .f32)
    (arg11 arg12 arg13 arg14 : Memref sig .tc .vmem S8x128 .f32) :
    Prog (TpuEff nD τ sig (Elt F) Λ₀ .tc) (Σ' (arg0 : BitVec 32) (arg1 : BitVec 32) (v11 : FVec F S8x512 .f32) (v14 : FVec F S8x512 .f32) (v15 : FVec F S8x512 .f32) (v16 : FVec F S8x512 .f32) (v27 : FVec F S8x512 .f32) (v28 : FVec F S8x512 .f32) (v32 : FVec F S8x512 .f32), FVec F S8x512 .f32) := do
  if _hA : condA i = 1#1 then do
    initAll (F := F) arg9 arg11 arg12 arg13 arg14
  else do
    pure ⟨⟩
  if _hB : condB i = 1#1 then do
    initRows (F := F) arg10
  else do
    pure ⟨⟩
  start i arg3 arg4 arg5

section eqs

variable (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S8x8192 .f32) (harg7 : arg7.IsWhole) (arg8 : Memref sig .tc .vmem S32x128 .f32) (harg8 : arg8.IsWhole) (arg9 : Memref sig .tc .vmem S8x8192 .f32) (harg9 : arg9.IsWhole) (arg10 : Memref sig .tc .vmem S1024x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole)

/-- The printed body's first window is the two resets followed by the start of the first half. -/
theorem part1_eq : k0_part1 (F := F) i arg2 harg2 arg3 harg3 arg4 harg4 arg5 harg5 arg6 harg6 arg7 harg7 arg8 harg8 arg9 harg9 arg10 harg10 arg11 harg11 arg12 harg12 arg13 harg13 arg14 harg14
    = ((if condA i = 1#1 then initAll arg9 arg11 arg12 arg13 arg14 else pure ⟨⟩) >>= fun _ =>
       (if condB i = 1#1 then initRows arg10 else pure ⟨⟩) >>= fun _ => start i arg3 arg4 arg5) := by
  refine (show _ = begins (F := F) i arg3 arg4 arg5 arg9 arg10 arg11 arg12 arg13 arg14 by sl_kernel_rfl).trans ?_
  unfold begins
  by_cases hA : condA i = 1#1 <;> by_cases hB : condB i = 1#1 <;> simp [hA, hB]

/-- Ending a program that answers nothing with nothing changes nothing. -/
theorem bind_nothing (p : Prog (TpuEff nD τ sig (Elt F) Λ₀ .tc) PUnit) : (p >>= fun _ => Prog.ret PUnit.unit) = p :=
  Prog.bind_pure p

/-- The end of the body as two conditional programs in sequence. -/
theorem ends_eq : ends (F := F) i arg6 arg7 arg8 arg9 arg10 arg11 arg12 arg13 arg14
    = ((if k0_cond3 i = 1#1 then emitRows arg6 arg10 else pure ⟨⟩) >>= fun _ =>
       (if k0_cond4 i = 1#1 then emitAll arg7 arg8 arg9 arg11 arg12 arg13 arg14 else pure ⟨⟩)) := by
  unfold ends
  by_cases h3 : k0_cond3 i = 1#1 <;> by_cases h4 : k0_cond4 i = 1#1 <;> simp [h3, h4, bind_nothing]

/-- The printed body after its first window's resets is the two halves and the end. -/
theorem rest_eq : cc0_hopfield_pass1 (F := F) i arg2 harg2 arg3 harg3 arg4 harg4 arg5 harg5 arg6 harg6 arg7 harg7 arg8 harg8 arg9 harg9 arg10 harg10 arg11 harg11 arg12 harg12 arg13 harg13 arg14 harg14
    = ((if condA i = 1#1 then initAll arg9 arg11 arg12 arg13 arg14 else pure ⟨⟩) >>= fun _ =>
       (if condB i = 1#1 then initRows arg10 else pure ⟨⟩) >>= fun _ =>
       half i arg2 arg3 arg4 arg5 arg9 arg10 arg11 arg12 arg13 arg14 0 >>= fun _ =>
       half i arg2 arg3 arg4 arg5 arg9 arg10 arg11 arg12 arg13 arg14 1 >>= fun _ =>
       ends i arg6 arg7 arg8 arg9 arg10 arg11 arg12 arg13 arg14) := by
  unfold cc0_hopfield_pass1 k0_part256
  rw [part1_eq]
  simp only [Prog.bind_assoc]
  refine congrArg _ (funext fun _ => congrArg _ (funext fun _ => ?_))
  sl_kernel_rfl

/-- THE PRINTED BODY IS THE ROLLED ONE. -/
theorem body_eq : cc0_hopfield_pass1 (F := F) i arg2 harg2 arg3 harg3 arg4 harg4 arg5 harg5 arg6 harg6 arg7 harg7 arg8 harg8 arg9 harg9 arg10 harg10 arg11 harg11 arg12 harg12 arg13 harg13 arg14 harg14
    = body i arg2 arg3 arg4 arg5 arg6 arg7 arg8 arg9 arg10 arg11 arg12 arg13 arg14 := by
  rw [rest_eq, ends_eq]; rfl

end eqs

end Cert.KernelIdeal.Hopfield

end
-- ==== Proof.Model.lean ====
/-
  What the first kernel does to its buffers, as plain functions of vectors.

  A block (`Blk`) is what one grid point reads; the scratch buffers together are an `Acc`. `Acc.point` is one
  grid point's effect on them.
-/
module

public import proofs.«01_k».proof.Proof.Roll
public import Idealize.ShloMosaic.Lib.VecWindow

@[expose] public section

noncomputable section

namespace Cert.KernelIdeal.Hopfield

open Idealize.ShloMosaic Idealize.SL.Sem Cert.KernelIdeal
open VecWindow (window put)

variable {F : FTy → Type} [FloatOps F] [Facts]
open Facts₀ Facts

/-- What one grid point reads: the distances to the destination of the block's rows and of its columns, the
    block of logits and the block of distances. -/
structure Blk (F : FTy → Type) where
  dr : Vec F S1024x1 .f32
  dcol : Vec F S1x1024 .f32
  lg : Vec F S1024x1024 .f32
  dm : Vec F S1024x1024 .f32

/-- The scratch buffers: column sums, row sums, and the four accumulators. -/
structure Acc (F : FTy → Type) where
  cols : Vec F S8x8192 .f32
  rows : Vec F S1024x128 .f32
  ne : Vec F S8x128 .f32
  pc : Vec F S8x128 .f32
  x2 : Vec F S8x128 .f32
  he : Vec F S8x128 .f32

/-- Chunk `k` of half `h` of a block of logits or distances. -/
def Blk.part (X : Vec F S1024x1024 .f32) (h : Fin 2) (k : Fin 128) : Vec F S8x512 .f32 :=
  window X ![8 * k.val, 512 * h.val] S8x512.size (inb_blk h k)

/-- Chunk `k` of a block's row distances. -/
def Blk.drow (X : Vec F S1024x1 .f32) (k : Fin 128) : Vec F S8x1 .f32 :=
  window X ![8 * k.val, 0] S8x1.size (inb_row k)

/-- The column distances of half `h`, one copy per row of a chunk. -/
def Blk.dc (X : Vec F S1x1024 .f32) (h : Fin 2) : FVec F S8x512 .f32 :=
  broadcastTo S8x512 (shapeCast S1x512 (shapeCast S1x512 (window X ![0, 512 * h.val] S1x512.size (inb_col h)) shapeCasts_S1x512_S1x512) shapeCasts_S1x512_S1x512) broadcasts_S1x512_S8x512

/-- The five sums after one more chunk of a block. -/
def Blk.next (B : Blk F) (h : Fin 2) (c : Carry F) (k : Fin 128) : Carry F :=
  c.next (Blk.dc B.dcol h) (Blk.part B.lg h k) (Blk.part B.dm h k) (Blk.drow B.dr k)

/-- The rows' buffer after one more chunk of a block. -/
def Blk.nextRows (B : Blk F) (h : Fin 2) (r : Vec F S1024x128 .f32) (k : Fin 128) : Vec F S1024x128 .f32 :=
  put r ![8 * k.val, 0] S8x128.size
    (shapeCast S8x128 (addf (window r ![8 * k.val, 0] S8x128.size (inb_acc k)) (fold4 (xV (Blk.part B.lg h k) (Blk.part B.dm h k)))) shapeCasts_S8x128_S8x128)

/-- The five sums of half `h` of a block. -/
def Blk.carry (B : Blk F) (h : Fin 2) : Carry F := (List.finRange 128).foldl (B.next h) Carry.zero

/-- An accumulator with a folded sum added. -/
def bumped (a : Vec F S8x128 .f32) (v : FVec F S8x512 .f32) : Vec F S8x128 .f32 :=
  shapeCast S8x128 (addf a (fold4 v)) shapeCasts_S8x128_S8x128

/-- Half `h` of a block's effect on the scratch buffers. -/
def Acc.half (i : grid0.Coords) (B : Blk F) (h : Fin 2) (S : Acc F) : Acc F where
  cols := put S.cols (k0_off1 i (BitVec.ofNat 32 (512 * h.val))) S8x512.size
    (shapeCast S8x512 (addf (window S.cols (k0_off1 i (BitVec.ofNat 32 (512 * h.val))) S8x512.size (k0_off1_inb i h)) (B.carry h).ax) shapeCasts_S8x512_S8x512)
  rows := (List.finRange 128).foldl (B.nextRows h) S.rows
  ne := bumped S.ne (B.carry h).ane
  pc := bumped S.pc (B.carry h).apc
  x2 := bumped S.x2 (B.carry h).ax2
  he := bumped S.he (B.carry h).ah

/-- Zeros in the four accumulators' shape. -/
def zeros8 : Vec F S8x128 .f32 := shapeCast S8x128 (broadcast S8x128 (Scalar.ofBits .f32 0x00000000#32 : F .f32)) shapeCasts_S8x128_S8x128

/-- The columns' buffer and the accumulators cleared. -/
def Acc.initAll (S : Acc F) : Acc F where
  cols := shapeCast S8x8192 (broadcast S8x8192 (Scalar.ofBits .f32 0x00000000#32 : F .f32)) shapeCasts_S8x8192_S8x8192
  rows := S.rows
  ne := zeros8
  pc := zeros8
  x2 := zeros8
  he := zeros8

/-- The rows' buffer cleared. -/
def Acc.initRows (S : Acc F) : Acc F :=
  { S with rows := shapeCast S1024x128 (broadcast S1024x128 (Scalar.ofBits .f32 0x00000000#32 : F .f32)) shapeCasts_S1024x128_S1024x128 }

/-- The resets at the start of a point. -/
def Acc.reset (i : grid0.Coords) (S : Acc F) : Acc F :=
  (fun S : Acc F => if condB i = 1#1 then S.initRows else S) (if condA i = 1#1 then S.initAll else S)

/-- One grid point's effect on the scratch buffers. -/
def Acc.point (i : grid0.Coords) (B : Blk F) (S : Acc F) : Acc F :=
  ((S.reset i).half i B 0).half i B 1

/-- The row sums put out at the end of a row of blocks. -/
def rowsOut (r : Vec F S1024x128 .f32) : Vec F S1x1024 .f32 :=
  transpose S1x1024 [1, 0] (shapeCast S1024x1 (multiReduction .add [1] S1024 r 0x00000000#32 reduces_S1024x128_S1024 (.inl rfl) rfl) shapeCasts_S1024_S1024x1) transposes_S1024x1_p1_0_S1x1024

/-- The four accumulators put out one under another over `X`. -/
def accsOver (S : Acc F) (X : Vec F S32x128 .f32) : Vec F S32x128 .f32 :=
  put (put (put (put X ![8 * (0 : Fin 4).val, 0] S8x128.size S.ne) ![8 * (1 : Fin 4).val, 0] S8x128.size S.pc)
    ![8 * (2 : Fin 4).val, 0] S8x128.size S.x2) ![8 * (3 : Fin 4).val, 0] S8x128.size S.he

/-- The four accumulators put out one under another. -/
def accsOut (S : Acc F) : Vec F S32x128 .f32 := accsOver S (broadcast S32x128 (Scalar.ofBits .f32 0x00000000#32 : F .f32))

/-- The four pieces cover the result: nothing of what was there before is left. -/
theorem accsOver_eq (S : Acc F) (X : Vec F S32x128 .f32) : accsOver S X = accsOut S := by
  funext y
  have h0 : (y 0).val < 32 := (y 0).isLt
  have h1 : (y 1).val < 128 := (y 1).isLt
  have key : ∀ j : Fin 4, 8 * j.val ≤ (y 0).val → (y 0).val < 8 * j.val + 8 →
      ∀ a, (![8 * j.val, 0] : Fin 2 → ℕ) a ≤ (y a).val ∧ (y a).val < (![8 * j.val, 0] : Fin 2 → ℕ) a + S8x128.size a := by
    intro j ha hb a
    match a with
    | 0 => exact ⟨ha, hb⟩
    | 1 => exact ⟨Nat.zero_le _, by show (y 1).val < 0 + 128; omega⟩
  have hcase : (y 0).val < 8 ∨ (8 ≤ (y 0).val ∧ (y 0).val < 16) ∨ (16 ≤ (y 0).val ∧ (y 0).val < 24) ∨ 24 ≤ (y 0).val := by omega
  unfold accsOut accsOver put
  split_ifs with h3 h2 h1' h0'
  all_goals try rfl
  exfalso
  rcases hcase with h | h | h | h
  · exact h0' (key 0 (by show 8 * 0 ≤ _; omega) (by show _ < 8 * 0 + 8; omega))
  · exact h1' (key 1 (by show 8 * 1 ≤ _; omega) (by show _ < 8 * 1 + 8; omega))
  · exact h2 (key 2 (by show 8 * 2 ≤ _; omega) (by show _ < 8 * 2 + 8; omega))
  · exact h3 (key 3 (by show 8 * 3 ≤ _; omega) (by show _ < 8 * 3 + 8; omega))

/-- Putting values over the whole shape leaves those values. -/
theorem put_whole {α : Type} {s : Shape} (x : s.Idx → α) (off : Fin s.rank → ℕ) (w : s.Idx → α) (inb : ∀ a, off a + s.size a ≤ s.size a) :
    put x off s.size w = w := by
  funext y
  have h : ∀ a, off a ≤ (y a).val ∧ (y a).val < off a + s.size a := fun a => by
    have := inb a; have := (y a).isLt; omega
  unfold put
  rw [dif_pos h]
  exact congrArg w (funext fun a => Fin.ext (by
    show (y a).val - off a = (y a).val
    have := inb a; omega))

/-- The window of the whole shape is everything. -/
theorem window_whole {α : Type} {s : Shape} (x : s.Idx → α) (off : Fin s.rank → ℕ) (inb : ∀ a, off a + s.size a ≤ s.size a) :
    window x off s.size inb = x := by
  funext y
  exact congrArg x (Rect.emb_unit_full inb y)

end Cert.KernelIdeal.Hopfield

end
-- ==== Proof.Body.lean ====
/-
  The first kernel's body run on its buffers: from the block's inputs, the scratch buffers at `S` and the
  results' buffers at anything, the body ends with the scratch buffers at `S.point` and, at the points where a
  result is put out, that result's buffer at its value.
-/
module

public import proofs.«01_k».proof.Proof.Access
public import proofs.«01_k».proof.Proof.Model
public import Idealize.ShloMosaic.Lib.Pipeline.Kit

@[expose] public section

noncomputable section

namespace Cert.KernelIdeal.Hopfield

open Idealize.ShloMosaic Idealize.ShloMosaic.TcCoe Cert.KernelIdeal
open Idealize.SL Idealize.SL.RA Idealize.SL.BI
open scoped Idealize.SL.BI
open Idealize.SL.BI.BIBase Idealize.SL.BI.Laws Idealize.SL.ProofMode Idealize.SL.Sem
open VecWindow (window put)

variable {F : FTy → Type} [FloatOps F] [Facts]
open Facts₀ Facts

section

variable {U : Type} [URA U] {c : Dev nD} {E : Set ℕ}

local notation "𝕄" => MT nD τ sig Unit (Elt F) ℕ U ℕ

/-- Running a program of the first kernel on core `c`. -/
abbrev run {α : Type} (c : Dev nD) (E : Set ℕ) (p : Prog (TpuEff nD τ sig (Elt F) Λ₀ .tc) α) (Q : α → sProp 𝕄) : sProp 𝕄 :=
  wp frame (wpE (defs₀ (F := F)) Variants.none (c : Thread nD τ) none) E p Q

/-- Core `c` holds the memref `m` whole at the values `X`. -/
abbrev has {s : Shape} (c : Dev nD) (m : Memref sig .tc .vmem s .f32) (X : Vec F s .f32) : sProp 𝕄 :=
  owns (c : Thread nD τ) m fullShare X

variable {arg2 : Memref sig .tc .vmem S1024x1 .f32} {arg3 : Memref sig .tc .vmem S1x1024 .f32}
    {arg4 : Memref sig .tc .vmem S1024x1024 .f32} {arg5 : Memref sig .tc .vmem S1024x1024 .f32}
    {arg6 : Memref sig .tc .vmem S1x1024 .f32} {arg7 : Memref sig .tc .vmem S8x8192 .f32} {arg8 : Memref sig .tc .vmem S32x128 .f32}
    {arg9 : Memref sig .tc .vmem S8x8192 .f32} {arg10 : Memref sig .tc .vmem S1024x128 .f32}
    {arg arg11 arg12 arg13 arg14 : Memref sig .tc .vmem S8x128 .f32}

/-- One chunk. -/
theorem chunk_run (B : Blk F) (h : Fin 2) (k : Fin 128) (C : Carry F) (R : Vec F S1024x128 .f32) (Q : Carry F → sProp 𝕄) :
    iprop(has c arg2 B.dr ∗ has c arg4 B.lg ∗ has c arg5 B.dm ∗ has c arg10 R
      ∗ (iprop(has c arg2 B.dr ∗ has c arg4 B.lg ∗ has c arg5 B.dm ∗ has c arg10 (B.nextRows h R k)) -∗ Q (B.next h C k)))
    ⊢ run c E (chunk arg2 arg4 arg5 arg10 h (Blk.dc B.dcol h) k C) Q := by
  unfold chunk Blk.next Blk.nextRows Blk.part Blk.drow
  simp only [Prog.bind_lift, Prog.pure_eq_ret]
  iintro ⟨H2, H4, H5, H10, Hk⟩
  iapply owns_load $$ H4; iintro H4
  iapply owns_load $$ H5; iintro H5
  iapply owns_load $$ H2; iintro H2
  iapply owns_load $$ H10; iintro H10
  iapply owns_load $$ H10; iintro H10
  iapply owns_store $$ H10; iintro H10
  iapply le_wp_ret
  iapply Hk
  isplitl [H2]; · iexact H2
  isplitl [H4]; · iexact H4
  isplitl [H5]; · iexact H5
  iexact H10

/-- The chunks of a list. -/
theorem rows_run (B : Blk F) (h : Fin 2) (l : List (Fin 128)) : ∀ (C : Carry F) (R : Vec F S1024x128 .f32) (Q : Carry F → sProp 𝕄),
    iprop(has c arg2 B.dr ∗ has c arg4 B.lg ∗ has c arg5 B.dm ∗ has c arg10 R
      ∗ (iprop(has c arg2 B.dr ∗ has c arg4 B.lg ∗ has c arg5 B.dm ∗ has c arg10 (l.foldl (B.nextRows h) R)) -∗ Q (l.foldl (B.next h) C)))
    ⊢ run c E (rows arg2 arg4 arg5 arg10 h (Blk.dc B.dcol h) l C) Q := by
  induction l with
  | nil =>
    intro C R Q
    unfold rows
    simp only [List.foldl_nil]
    iintro ⟨H2, H4, H5, H10, Hk⟩
    iapply le_wp_ret
    iapply Hk
    isplitl [H2]; · iexact H2
    isplitl [H4]; · iexact H4
    isplitl [H5]; · iexact H5
    iexact H10
  | cons k l ih =>
    intro C R Q
    unfold rows run
    rw [wp_bind]
    iintro ⟨H2, H4, H5, H10, Hk⟩
    iapply (chunk_run B h k C R _)
    isplitl [H2]; · iexact H2
    isplitl [H4]; · iexact H4
    isplitl [H5]; · iexact H5
    isplitl [H10]; · iexact H10
    iintro ⟨H2, H4, H5, H10⟩
    iapply (ih (B.next h C k) (B.nextRows h R k) Q)
    isplitl [H2]; · iexact H2
    isplitl [H4]; · iexact H4
    isplitl [H5]; · iexact H5
    isplitl [H10]; · iexact H10
    iexact Hk

/-- A sum added into an accumulator. -/
theorem bump_run (a : Vec F S8x128 .f32) (v : FVec F S8x512 .f32) (Q : PUnit → sProp 𝕄) :
    iprop(has c arg a ∗ (has c arg (bumped a v) -∗ Q ⟨⟩)) ⊢ run c E (bump arg v) Q := by
  unfold bump
  simp only [Prog.bind_lift, Prog.pure_eq_ret, Prog.lift]
  iintro ⟨H, Hk⟩
  iapply owns_load $$ H; iintro H
  iapply owns_load $$ H; iintro H
  iapply owns_store $$ H; iintro H
  iapply le_wp_ret
  iapply Hk
  rw [put_whole (s := S8x128) _ _ _ inb_S8x128_S8x128_0_0, window_whole (s := S8x128)]
  iexact H

/-- An accumulator cleared. -/
theorem clear8_run (a : Vec F S8x128 .f32) (Q : PUnit → sProp 𝕄) :
    iprop(has c arg a ∗ (has c arg (zeros8 : Vec F S8x128 .f32) -∗ Q ⟨⟩)) ⊢ run c E (clear8 arg) Q := by
  unfold clear8
  simp only [Prog.bind_lift, Prog.pure_eq_ret, Prog.lift]
  iintro ⟨H, Hk⟩
  iapply owns_load $$ H; iintro H
  iapply owns_store $$ H; iintro H
  iapply le_wp_ret
  iapply Hk
  rw [put_whole (s := S8x128) _ _ _ inb_S8x128_S8x128_0_0]
  iexact H

/-- The scratch buffers held at `S`. -/
def accs (c : Dev nD) (arg9 : Memref sig .tc .vmem S8x8192 .f32) (arg10 : Memref sig .tc .vmem S1024x128 .f32)
    (arg11 arg12 arg13 arg14 : Memref sig .tc .vmem S8x128 .f32) (S : Acc F) : sProp 𝕄 :=
  iprop(has c arg9 S.cols ∗ has c arg10 S.rows ∗ has c arg11 S.ne ∗ has c arg12 S.pc ∗ has c arg13 S.x2 ∗ has c arg14 S.he)

/-- A half of the block. -/
theorem half_run (i : grid0.Coords) (B : Blk F) (h : Fin 2) (S : Acc F) (Q : PUnit → sProp 𝕄) :
    iprop(has c arg2 B.dr ∗ has c arg3 B.dcol ∗ has c arg4 B.lg ∗ has c arg5 B.dm ∗ accs c arg9 arg10 arg11 arg12 arg13 arg14 S
      ∗ (iprop(has c arg2 B.dr ∗ has c arg3 B.dcol ∗ has c arg4 B.lg ∗ has c arg5 B.dm ∗ accs c arg9 arg10 arg11 arg12 arg13 arg14 (S.half i B h)) -∗ Q ⟨⟩))
    ⊢ run c E (half i arg2 arg3 arg4 arg5 arg9 arg10 arg11 arg12 arg13 arg14 h) Q := by
  unfold half accs
  simp only [Prog.bind_lift]
  iintro ⟨H2, H3, H4, H5, ⟨H9, H10, H11, H12, H13, H14⟩, Hk⟩
  iapply owns_load $$ H3; iintro H3
  rw [wp_bind]
  iapply (rows_run B h (List.finRange 128) Carry.zero S.rows _)
  isplitl [H2]; · iexact H2
  isplitl [H4]; · iexact H4
  isplitl [H5]; · iexact H5
  isplitl [H10]; · iexact H10
  iintro ⟨H2, H4, H5, H10⟩
  unfold flush
  simp only [Prog.bind_lift]
  iapply owns_load $$ H9; iintro H9
  iapply owns_load $$ H9; iintro H9
  iapply owns_store $$ H9; iintro H9
  rw [wp_bind]
  iapply (bump_run S.ne _ _)
  isplitl [H11]; · iexact H11
  iintro H11
  rw [wp_bind]
  iapply (bump_run S.pc _ _)
  isplitl [H12]; · iexact H12
  iintro H12
  rw [wp_bind]
  iapply (bump_run S.x2 _ _)
  isplitl [H13]; · iexact H13
  iintro H13
  iapply (bump_run S.he _ _)
  isplitl [H14]; · iexact H14
  iintro H14
  iapply Hk
  isplitl [H2]; · iexact H2
  isplitl [H3]; · iexact H3
  isplitl [H4]; · iexact H4
  isplitl [H5]; · iexact H5
  isplitl [H9]; · iexact H9
  isplitl [H10]; · iexact H10
  isplitl [H11]; · iexact H11
  isplitl [H12]; · iexact H12
  isplitl [H13]; · iexact H13
  iexact H14

/-- The resets. -/
theorem reset_run (i : grid0.Coords) (S : Acc F) (Q : PUnit → sProp 𝕄) :
    iprop(accs c arg9 arg10 arg11 arg12 arg13 arg14 S ∗ (accs c arg9 arg10 arg11 arg12 arg13 arg14 (S.reset i) -∗ Q ⟨⟩))
    ⊢ run c E ((if condA i = 1#1 then initAll (F := F) arg9 arg11 arg12 arg13 arg14 else pure ⟨⟩) >>= fun _ =>
        (if condB i = 1#1 then initRows (F := F) arg10 else pure ⟨⟩)) Q := by
  have hB : ∀ (S : Acc F),
      iprop(accs c arg9 arg10 arg11 arg12 arg13 arg14 S ∗ (accs c arg9 arg10 arg11 arg12 arg13 arg14 (if condB i = 1#1 then S.initRows else S) -∗ Q ⟨⟩))
      ⊢ run c E (if condB i = 1#1 then initRows (F := F) arg10 else pure ⟨⟩) Q := by
    intro S
    by_cases h : condB i = 1#1
    · simp only [if_pos h]
      unfold initRows accs
      simp only [Prog.bind_lift, Prog.lift]
      iintro ⟨⟨H9, H10, H11, H12, H13, H14⟩, Hk⟩
      iapply owns_load $$ H10; iintro H10
      iapply owns_store $$ H10; iintro H10
      iapply le_wp_ret
      iapply Hk
      rw [put_whole (s := S1024x128) _ _ _ inb_S1024x128_S1024x128_0_0]
      isplitl [H9]; · iexact H9
      isplitl [H10]; · iexact H10
      isplitl [H11]; · iexact H11
      isplitl [H12]; · iexact H12
      isplitl [H13]; · iexact H13
      iexact H14
    · simp only [if_neg h]
      iintro ⟨H, Hk⟩
      iapply le_wp_ret
      iapply Hk
      iexact H
  unfold run
  rw [wp_bind]
  by_cases h : condA i = 1#1
  · simp only [Acc.reset, if_pos h]
    unfold initAll
    simp only [Prog.bind_lift]
    iintro ⟨H, Hk⟩
    unfold accs
    icases H with ⟨H9, H10, H11, H12, H13, H14⟩
    iapply owns_load $$ H9; iintro H9
    iapply owns_store $$ H9; iintro H9
    rw [put_whole (s := S8x8192) _ _ _ inb_S8x8192_S8x8192_0_0]
    rw [wp_bind]
    iapply (clear8_run S.ne _)
    isplitl [H11]; · iexact H11
    iintro H11
    rw [wp_bind]
    iapply (clear8_run S.pc _)
    isplitl [H12]; · iexact H12
    iintro H12
    rw [wp_bind]
    iapply (clear8_run S.x2 _)
    isplitl [H13]; · iexact H13
    iintro H13
    iapply (clear8_run S.he _)
    isplitl [H14]; · iexact H14
    iintro H14
    iapply (hB S.initAll)
    isplitr [Hk]
    · unfold accs
      isplitl [H9]; · iexact H9
      isplitl [H10]; · iexact H10
      isplitl [H11]; · iexact H11
      isplitl [H12]; · iexact H12
      isplitl [H13]; · iexact H13
      iexact H14
    · iexact Hk
  · simp only [Acc.reset, if_neg h]
    iintro ⟨H, Hk⟩
    iapply le_wp_ret
    iapply (hB S)
    isplitl [H]; · iexact H
    iexact Hk

/-- The row sums put out. -/
theorem emitRows_run (i : grid0.Coords) (S : Acc F) (X : Vec F S1x1024 .f32) (Q : PUnit → sProp 𝕄) :
    iprop(accs c arg9 arg10 arg11 arg12 arg13 arg14 S ∗ has c arg6 X
      ∗ (iprop(accs c arg9 arg10 arg11 arg12 arg13 arg14 S ∗ has c arg6 (if k0_cond3 i = 1#1 then rowsOut S.rows else X)) -∗ Q ⟨⟩))
    ⊢ run c E (if k0_cond3 i = 1#1 then emitRows (F := F) arg6 arg10 else pure ⟨⟩) Q := by
  by_cases h : k0_cond3 i = 1#1
  · simp only [if_pos h]
    unfold emitRows accs
    simp only [Prog.bind_lift, Prog.lift]
    iintro ⟨⟨H9, H10, H11, H12, H13, H14⟩, H6, Hk⟩
    iapply owns_load $$ H10; iintro H10
    iapply owns_load $$ H6; iintro H6
    iapply owns_store $$ H6; iintro H6
    iapply le_wp_ret
    iapply Hk
    rw [put_whole (s := S1x1024) _ _ _ inb_S1x1024_S1x1024_0_0, window_whole (s := S1024x128)]
    isplitr [H6]
    · isplitl [H9]; · iexact H9
      isplitl [H10]; · iexact H10
      isplitl [H11]; · iexact H11
      isplitl [H12]; · iexact H12
      isplitl [H13]; · iexact H13
      iexact H14
    · iexact H6
  · simp only [if_neg h]
    iintro ⟨H, H6, Hk⟩
    iapply le_wp_ret
    iapply Hk
    isplitl [H]; · iexact H
    iexact H6

/-- An accumulator copied out. -/
theorem copy8_run (j : Fin 4) (a : Vec F S8x128 .f32) (X : Vec F S32x128 .f32) (Q : PUnit → sProp 𝕄) :
    iprop(has c arg a ∗ has c arg8 X ∗ (iprop(has c arg a ∗ has c arg8 (put X ![8 * j.val, 0] S8x128.size a)) -∗ Q ⟨⟩)) ⊢ run c E (copy8 arg8 j arg) Q := by
  unfold copy8
  simp only [Prog.bind_lift, Prog.lift]
  iintro ⟨H, H8, Hk⟩
  iapply owns_load $$ H; iintro H
  iapply owns_load $$ H8; iintro H8
  iapply owns_store $$ H8; iintro H8
  iapply le_wp_ret
  iapply Hk
  rw [window_whole (s := S8x128)]
  isplitl [H]; · iexact H
  iexact H8

/-- The column sums and the accumulators put out. -/
theorem emitAll_run (i : grid0.Coords) (S : Acc F) (X : Vec F S8x8192 .f32) (Y : Vec F S32x128 .f32) (Q : PUnit → sProp 𝕄) :
    iprop(accs c arg9 arg10 arg11 arg12 arg13 arg14 S ∗ has c arg7 X ∗ has c arg8 Y
      ∗ (iprop(accs c arg9 arg10 arg11 arg12 arg13 arg14 S ∗ has c arg7 (if k0_cond4 i = 1#1 then S.cols else X)
          ∗ has c arg8 (if k0_cond4 i = 1#1 then accsOut S else Y)) -∗ Q ⟨⟩))
    ⊢ run c E (if k0_cond4 i = 1#1 then emitAll (F := F) arg7 arg8 arg9 arg11 arg12 arg13 arg14 else pure ⟨⟩) Q := by
  by_cases h : k0_cond4 i = 1#1
  · simp only [if_pos h]
    rw [← accsOver_eq S Y]
    unfold emitAll accs
    simp only [Prog.bind_lift]
    iintro ⟨⟨H9, H10, H11, H12, H13, H14⟩, H7, H8, Hk⟩
    iapply owns_load $$ H9; iintro H9
    iapply owns_load $$ H7; iintro H7
    iapply owns_store $$ H7; iintro H7
    rw [put_whole (s := S8x8192) _ _ _ inb_S8x8192_S8x8192_0_0, window_whole (s := S8x8192)]
    rw [wp_bind]
    iapply (copy8_run 0 S.ne _ _)
    isplitl [H11]; · iexact H11
    isplitl [H8]; · iexact H8
    iintro ⟨H11, H8⟩
    rw [wp_bind]
    iapply (copy8_run 1 S.pc _ _)
    isplitl [H12]; · iexact H12
    isplitl [H8]; · iexact H8
    iintro ⟨H12, H8⟩
    rw [wp_bind]
    iapply (copy8_run 2 S.x2 _ _)
    isplitl [H13]; · iexact H13
    isplitl [H8]; · iexact H8
    iintro ⟨H13, H8⟩
    iapply (copy8_run 3 S.he _ _)
    isplitl [H14]; · iexact H14
    isplitl [H8]; · iexact H8
    iintro ⟨H14, H8⟩
    iapply Hk
    isplitr [H7 H8]
    · isplitl [H9]; · iexact H9
      isplitl [H10]; · iexact H10
      isplitl [H11]; · iexact H11
      isplitl [H12]; · iexact H12
      isplitl [H13]; · iexact H13
      iexact H14
    isplitl [H7]; · iexact H7
    iexact H8
  · simp only [if_neg h]
    iintro ⟨H, H7, H8, Hk⟩
    iapply le_wp_ret
    iapply Hk
    isplitl [H]; · iexact H
    isplitl [H7]; · iexact H7
    iexact H8

/-- THE BODY. -/
theorem body_run (i : grid0.Coords) (B : Blk F) (S : Acc F) (X6 : Vec F S1x1024 .f32) (X7 : Vec F S8x8192 .f32) (X8 : Vec F S32x128 .f32) (Q : PUnit → sProp 𝕄) :
    iprop(has c arg2 B.dr ∗ has c arg3 B.dcol ∗ has c arg4 B.lg ∗ has c arg5 B.dm ∗ accs c arg9 arg10 arg11 arg12 arg13 arg14 S
      ∗ has c arg6 X6 ∗ has c arg7 X7 ∗ has c arg8 X8
      ∗ (iprop(has c arg2 B.dr ∗ has c arg3 B.dcol ∗ has c arg4 B.lg ∗ has c arg5 B.dm ∗ accs c arg9 arg10 arg11 arg12 arg13 arg14 (S.point i B)
          ∗ has c arg6 (if k0_cond3 i = 1#1 then rowsOut (S.point i B).rows else X6)
          ∗ has c arg7 (if k0_cond4 i = 1#1 then (S.point i B).cols else X7)
          ∗ has c arg8 (if k0_cond4 i = 1#1 then accsOut (S.point i B) else X8)) -∗ Q ⟨⟩))
    ⊢ run c E (body i arg2 arg3 arg4 arg5 arg6 arg7 arg8 arg9 arg10 arg11 arg12 arg13 arg14) Q := by
  unfold body run
  rw [← Prog.bind_assoc, wp_bind]
  iintro ⟨H2, H3, H4, H5, HS, H6, H7, H8, Hk⟩
  iapply (reset_run i S _)
  isplitl [HS]; · iexact HS
  iintro HS
  rw [wp_bind]
  iapply (half_run i B 0 (S.reset i) _)
  isplitl [H2]; · iexact H2
  isplitl [H3]; · iexact H3
  isplitl [H4]; · iexact H4
  isplitl [H5]; · iexact H5
  isplitl [HS]; · iexact HS
  iintro ⟨H2, H3, H4, H5, HS⟩
  rw [wp_bind]
  iapply (half_run i B 1 _ _)
  isplitl [H2]; · iexact H2
  isplitl [H3]; · iexact H3
  isplitl [H4]; · iexact H4
  isplitl [H5]; · iexact H5
  isplitl [HS]; · iexact HS
  iintro ⟨H2, H3, H4, H5, HS⟩
  rw [wp_bind]
  iapply (emitRows_run i (S.point i B) X6 _)
  isplitl [HS]; · iexact HS
  isplitl [H6]; · iexact H6
  iintro ⟨HS, H6⟩
  iapply (emitAll_run i (S.point i B) X7 X8 _)
  isplitl [HS]; · iexact HS
  isplitl [H7]; · iexact H7
  isplitl [H8]; · iexact H8
  iintro ⟨HS, H7, H8⟩
  iapply Hk
  isplitl [H2]; · iexact H2
  isplitl [H3]; · iexact H3
  isplitl [H4]; · iexact H4
  isplitl [H5]; · iexact H5
  isplitl [HS]; · iexact HS
  isplitl [H6]; · iexact H6
  isplitl [H7]; · iexact H7
  iexact H8

end

end Cert.KernelIdeal.Hopfield

end
-- ==== Proof.Pass1.lean ====
/-
  The first kernel as a pipelined region: what its scratch buffers hold after each grid point, what it leaves
  in its results' buffers, and that its body does so at every point.
-/
module

public import proofs.«01_k».proof.Proof.Body
public import proofs.«01_k».proof.Proof.Gen.KernelIdeal.Launch
public import proofs.«01_k».proof.Proof.Gen.KernelIdeal.Points
public import Idealize.ShloMosaic.Lib.Pipeline.FrameBody

@[expose] public section

noncomputable section

namespace Cert.KernelIdeal.Hopfield

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open VecWindow (window put)

variable {F : FTy → Type} [FloatOps F]
variable {U : Type} [URA U]

local notation "𝕄" => MT nD τ sig Unit (Elt F) ℕ U ℕ

/-- What every buffer holds on each core when the region is entered. -/
abbrev Entry (F : FTy → Type) : Type := Dev nD → Valuation τ sig (Elt F)

/-- What grid point `t` reads: the blocks of the four inputs. -/
def blkAt (V : Entry F) (c : Dev nD) (t : Fin cfg0.N) : Blk F where
  dr := ((cfg0.win 0).blk t).view.read (Elt F) (V c (Proc.devRef .tc main_v9))
  dcol := ((cfg0.win 1).blk t).view.read (Elt F) (V c (Proc.devRef .tc main_v10))
  lg := ((cfg0.win 2).blk t).view.read (Elt F) (V c (Proc.devRef .tc main_arg0))
  dm := ((cfg0.win 3).blk t).view.read (Elt F) (V c (Proc.devRef .tc main_arg1))

/-- Scratch buffers of zeros. -/
def blank : Acc F where
  cols := broadcast S8x8192 (Scalar.ofBits .f32 0x00000000#32 : F .f32)
  rows := broadcast S1024x128 (Scalar.ofBits .f32 0x00000000#32 : F .f32)
  ne := broadcast S8x128 (Scalar.ofBits .f32 0x00000000#32 : F .f32)
  pc := broadcast S8x128 (Scalar.ofBits .f32 0x00000000#32 : F .f32)
  x2 := broadcast S8x128 (Scalar.ofBits .f32 0x00000000#32 : F .f32)
  he := broadcast S8x128 (Scalar.ofBits .f32 0x00000000#32 : F .f32)

/-- The scratch buffers after the first `n` points. -/
def stF (V : Entry F) (c : Dev nD) : ℕ → Acc F
  | 0 => blank
  | n + 1 => if h : n < cfg0.N then (stF V c n).point (grid0.coords ⟨n, h⟩) (blkAt V c ⟨n, h⟩) else stF V c n

/-- The buffers after a grid point are that point's effect on the buffers before it. -/
theorem stF_succ (V : Entry F) (c : Dev nD) (t : Fin cfg0.N) :
    stF V c (t.val + 1) = (stF V c t.val).point (grid0.coords t) (blkAt V c t) := by
  show (if h : t.val < cfg0.N then _ else _) = _
  rw [dif_pos t.isLt]

/-- The columns' buffer and the accumulators are cleared at the first grid point only. -/
theorem condA_zero : ∀ t : Fin grid0.N, condA (grid0.coords t) = 1#1 ↔ t.val = 0 := by decide +kernel
/-- The rows' buffer is cleared at the first block of every row of blocks. -/
theorem condB_zero : ∀ t : Fin grid0.N, condB (grid0.coords t) = 1#1 ↔ t.val % 8 = 0 := by decide +kernel
/-- The row sums are put out at the last block of every row of blocks. -/
theorem cond3_last : ∀ t : Fin grid0.N, k0_cond3 (grid0.coords t) = 1#1 ↔ t.val % 8 = 7 := by decide +kernel
/-- The column sums and the accumulators are put out at the last grid point. -/
theorem cond4_last : ∀ t : Fin grid0.N, k0_cond4 (grid0.coords t) = 1#1 ↔ t.val % 64 = 63 := by decide +kernel

/-- The first point clears every scratch buffer: what was there before does not matter. -/
theorem point_first (t : Fin cfg0.N) (ht : t.val = 0) (B : Blk F) (S S' : Acc F) :
    S.point (grid0.coords t) B = S'.point (grid0.coords t) B := by
  have hA := (condA_zero t).mpr ht
  have hB := (condB_zero t).mpr (by omega)
  unfold Acc.point Acc.reset
  simp only [if_pos hA, if_pos hB]
  rfl

/-- The first kernel's scratch buffers, held at `S`. -/
abbrev scratch (c : Dev nD) (S : Acc F) : sProp 𝕄 :=
  accs c (Memref.whole cc0_scratch0) (Memref.whole cc0_scratch1) (Memref.whole cc0_scratch2) (Memref.whole cc0_scratch3)
    (Memref.whole cc0_scratch4) (Memref.whole cc0_scratch5) S

/-- The second kernel's staging buffers, each at something. -/
def others (c : Dev nD) : sProp 𝕄 :=
  iprop((∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f))

/-- Between points: the scratch buffers at what the points so far made of them (before the first, anything). -/
def inv0 (V : Entry F) (c : Dev nD) (n : ℕ) : sProp 𝕄 :=
  iprop((∃ S : Acc F, ⌜n ≠ 0 → S = stF V c n⌝ ∗ scratch c S) ∗ others c)

/-- The region's proof data: the inputs' buffers stay as fetched, the results' are left at the row sums, the
    column sums and the accumulators. -/
def dat0 (V : Entry F) (c : Dev nD) : Dat τ (Elt F) Unit ℕ U ℕ cfg0 c where
  A w := V c (Proc.devRef .tc (Pipeline.arrRef spec0 w))
  after w t := match w with
    | ⟨0, _⟩ => (blkAt V c t).dr
    | ⟨1, _⟩ => (blkAt V c t).dcol
    | ⟨2, _⟩ => (blkAt V c t).lg
    | ⟨3, _⟩ => (blkAt V c t).dm
    | ⟨4, _⟩ => rowsOut (stF V c (t.val + 1)).rows
    | ⟨5, _⟩ => (stF V c (t.val + 1)).cols
    | ⟨6, _⟩ => accsOut (stF V c (t.val + 1))
  Φ t := inv0 V c t.val
  q _ := fullShare
  owed _ := 0

variable (V : Entry F) (c : Dev nD)

/-- Each grid point finds the block of row distances in its buffer. -/
theorem before0 (t : Fin cfg0.N) (d) : (dat0 (U := U) V c).before 0 t d = (blkAt V c t).dr :=
  (dat0 (U := U) V c).before_in_eq_fetched 0 rfl (fun _ => rfl) (fun _ _ _ => rfl) (fun _ => rfl) t d
/-- Each grid point finds the block of column distances in its buffer. -/
theorem before1 (t : Fin cfg0.N) (d) : (dat0 (U := U) V c).before 1 t d = (blkAt V c t).dcol :=
  (dat0 (U := U) V c).before_in_eq_fetched 1 rfl (fun _ => rfl) (fun _ _ _ => rfl) (fun _ => rfl) t d
/-- Each grid point finds the block of logits in its buffer. -/
theorem before2 (t : Fin cfg0.N) (d) : (dat0 (U := U) V c).before 2 t d = (blkAt V c t).lg :=
  (dat0 (U := U) V c).before_in_eq_fetched 2 rfl (fun _ => rfl) (fun _ _ _ => rfl) (fun _ => rfl) t d
/-- Each grid point finds the block of distances in its buffer. -/
theorem before3 (t : Fin cfg0.N) (d) : (dat0 (U := U) V c).before 3 t d = (blkAt V c t).dm :=
  (dat0 (U := U) V c).before_in_eq_fetched 3 rfl (fun _ => rfl) (fun _ _ _ => rfl) (fun _ => rfl) t d

/-- A result's buffer after a point: put out if the point does so, otherwise as it was and not written back. -/
theorem leave_out {s : Shape} (m : Memref sig .tc .vmem s .f32) (p q : Prop) [Decidable p] (fl : Bool) (hfl : fl = true ↔ q) (hpq : p ↔ q)
    (g : (s.Idx → Elt F .f32) → (s.Idx → Elt F .f32)) (d : s.Idx → Elt F .f32) (X : s.Idx → Elt F .f32) (b : BitVec 1) (hb : b = 1#1 ↔ p) :
    has (U := U) c m (if p then X else g d)
      ⊢ (match (generalizing := false) !(b == 1#1) with
        | true => (match (generalizing := false) fl with
          | false => iprop(∃ d, owns (c : Thread nD τ) m fullShare (g d))
          | true => owns (c : Thread nD τ) m fullShare X)
        | false => owns (c : Thread nD τ) m fullShare X : sProp 𝕄) := by
  by_cases hp : p
  · have h1 : (b == 1#1) = true := by simp [hb.mpr hp]
    rw [h1, if_pos hp]; exact .rfl
  · have h1 : (b == 1#1) = false := by simpa using fun h => hp (hb.mp h)
    rw [h1, if_neg hp]
    cases fl with
    | true => exact absurd (hpq.mpr (hfl.mp rfl)) hp
    | false => exact (show has (U := U) c m (g d) ⊢ iprop(∃ d, owns (c : Thread nD τ) m fullShare (g d)) from by
        iintro H; iexists d; iexact H)

/-- The body at every point. -/
theorem body0 (ι : Unit) : BodyObligation (dat0 (U := U) V c) (defs₀ (F := F)) Variants.none ι Set.univ := fun t => by
  rw [bigSep_W0, bigSep_W0]
  rw [show (dat0 (U := U) V c).owesAt ι t.succ = (dat0 (U := U) V c).owesAt ι t.castSucc from rfl,
    show (dat0 (U := U) V c).Φ t.castSucc = inv0 V c t.val from rfl,
    show (dat0 (U := U) V c).Φ t.succ = inv0 V c (t.val + 1) from rfl]
  show _ ⊢ wp frame _ _ (cc0_hopfield_pass1 (F := F) (grid0.coords t) _ _ _ _ _ _ _ _ _ _ _ _ _ _ _ _ _ _ _ _ _ _ _ _ _ _) _
  rw [body_eq]
  unfold inv0
  iintro ⟨⟨⟨%S, %hS, HS⟩, Hoth⟩, Howes, ⟨%d0, H0⟩, ⟨%d1, H1⟩, ⟨%d2, H2⟩, ⟨%d3, H3⟩, ⟨%d4, H4⟩, ⟨%d5, H5⟩, ⟨%d6, H6⟩⟩
  dsimp only [before0]
  have hpt : S.point (grid0.coords t) (blkAt V c t) = stF V c (t.val + 1) := by
    rw [stF_succ]
    by_cases ht : t.val = 0
    · exact point_first t ht _ _ _
    · rw [hS ht]
  iapply (body_run (grid0.coords t) (blkAt V c t) S ((dat0 (U := U) V c).before 4 t d4) ((dat0 (U := U) V c).before 5 t d5) ((dat0 (U := U) V c).before 6 t d6) _)
  isplitl [H0]; · rw [before0]; iexact H0
  isplitl [H1]; · rw [before1]; iexact H1
  isplitl [H2]; · rw [before2]; iexact H2
  isplitl [H3]; · rw [before3]; iexact H3
  isplitl [HS]; · iexact HS
  isplitl [H4]; · iexact H4
  isplitl [H5]; · iexact H5
  isplitl [H6]; · iexact H6
  rw [hpt]
  iintro ⟨H0, H1, H2, H3, HS, H4, H5, H6⟩
  isplitl [HS Hoth]
  · isplitl [HS]
    · iexists _
      isplitr
      · ipureintro; exact fun _ => rfl
      · iexact HS
    · iexact Hoth
  isplitl [Howes]; · iexact Howes
  isplitl [H0]; · iexact H0
  isplitl [H1]; · iexact H1
  isplitl [H2]; · iexact H2
  isplitl [H3]; · iexact H3
  isplitl [H4]
  · ihave H := (show has (U := U) c (st0_4 t) _ ⊢ _ from leave_out (U := U) c (st0_4 t) _ _ ((cfg0.win 4).flush t) (flush0_4 t) (cond3_last t) ((dat0 (U := U) V c).before 4 t) d4 _ _ Iff.rfl) $$ H4; iexact H
  isplitl [H5]
  · ihave H := (show has (U := U) c (st0_5 t) _ ⊢ _ from leave_out (U := U) c (st0_5 t) _ _ ((cfg0.win 5).flush t) (flush0_5 t) (cond4_last t) ((dat0 (U := U) V c).before 5 t) d5 _ _ Iff.rfl) $$ H5; iexact H
  · ihave H := (show has (U := U) c (st0_6 t) _ ⊢ _ from leave_out (U := U) c (st0_6 t) _ _ ((cfg0.win 6).flush t) (flush0_6 t) (cond4_last t) ((dat0 (U := U) V c).before 6 t) d6 _ _ Iff.rfl) $$ H6; iexact H

/-- The scoped buffers the pipeline does not stage make the invariant before the first point. -/
theorem enter0 : (Pipeline.scopedRest (Ix := Unit) (Name := ℕ) (U := U) (Lvl := ℕ) (Val := Elt F) spec0 c : sProp 𝕄) ⊢ inv0 V c 0 := by
  rw [scopedRest0_eq]
  unfold inv0 others scratch accs has
  simp only [owns_whole_eq]
  iintro ⟨⟨%f0, H0⟩, ⟨%f1, H1⟩, ⟨%f2, H2⟩, ⟨%f3, H3⟩, ⟨%f4, H4⟩, ⟨%f5, H5⟩, Hr⟩
  isplitr [Hr]; swap; · iexact Hr
  iexists (⟨f0, f1, f2, f3, f4, f5⟩ : Acc F)
  isplitr; · ipureintro; exact fun h => absurd rfl h
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists f5; isplitr; · ipureintro; rfl
  iexact H5

/-- The invariant after any point gives those buffers back. -/
theorem leave0 (n : ℕ) : inv0 V c n ⊢ (Pipeline.scopedRest (Ix := Unit) (Name := ℕ) (U := U) (Lvl := ℕ) (Val := Elt F) spec0 c : sProp 𝕄) := by
  rw [scopedRest0_eq]
  unfold inv0 others scratch accs has
  simp only [owns_whole_eq]
  iintro ⟨⟨%S, -, ⟨%f0, -, H0⟩, ⟨%f1, -, H1⟩, ⟨%f2, -, H2⟩, ⟨%f3, -, H3⟩, ⟨%f4, -, H4⟩, ⟨%f5, -, H5⟩⟩, Hr⟩
  isplitl [H0]; · iexists f0; iexact H0
  isplitl [H1]; · iexists f1; iexact H1
  isplitl [H2]; · iexists f2; iexact H2
  isplitl [H3]; · iexists f3; iexact H3
  isplitl [H4]; · iexists f4; iexact H4
  isplitl [H5]; · iexists f5; iexact H5
  iexact Hr

end Cert.KernelIdeal.Hopfield

end
-- ==== Proof.Pass2.lean ====
/-
  The second kernel: what it computes of the two indices, the row sums, the column sums and the accumulators,
  its body run on its buffers, and the body as a one-point region.
-/
module

public import proofs.«01_k».proof.Proof.Pass1

@[expose] public section

noncomputable section

namespace Cert.KernelIdeal.Hopfield

open Idealize.ShloMosaic Idealize.ShloMosaic.TcCoe Cert.KernelIdeal
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open VecWindow (window put)

variable {F : FTy → Type} [FloatOps F]
open Facts₀ Facts

/-- The one word of a one-element buffer. -/
def word (X : Vec F S1 .i32) : BitVec 32 := X (Shape.Idx.first (numel1_S1.symm ▸ Nat.one_pos))

/-- The vector that is 1 at position `w` and 0 elsewhere. -/
def spike (w : BitVec 32) : FVec F S1x8192 .f32 :=
  sitofp .f32 (extui 32 (cmpi .eq (iota .tc S1x8192 32 [1] iota_S1x8192_d1_w32) (broadcast S1x8192 w)) natLt_1_32)

/-- The column sums: the eight rows of partial sums added up. -/
def colSums (inn : Vec F S8x8192 .f32) : FVec F S1x8192 .f32 :=
  shapeCast S1x8192 (multiReduction .add [0] S8192 (shapeCast S8x8192 inn shapeCasts_S8x8192_S8x8192) 0x00000000#32 reduces_S8x8192_S8192 (.inl rfl) rfl) shapeCasts_S8192_S1x8192

/-- The sum of a row. -/
def rowTotal (v : FVec F S1x8192 .f32) : FVec F S1x1 .f32 :=
  shapeCast S1x1 (multiReduction .add [1] S1 v 0x00000000#32 reduces_S1x8192_S1 (.inl rfl) rfl) shapeCasts_S1_S1x1

/-- The flow's deviation from its target at every vertex. -/
def deviation (src dst : BitVec 32) (out : Vec F S1x8192 .f32) (inn : Vec F S8x8192 .f32) : FVec F S1x8192 .f32 :=
  subf (subf (shapeCast S1x8192 out shapeCasts_S1x8192_S1x8192) (colSums inn)) (subf (spike src) (spike dst))

/-- The sum of an accumulator. -/
def accTotal (v : FVec F S8x128 .f32) : FVec F S1x1 .f32 :=
  shapeCast S1x1 (multiReduction .add [1] S1 (shapeCast S1x128 (multiReduction .add [0] S128 v 0x00000000#32 reduces_S8x128_S128 (.inl rfl) rfl) shapeCasts_S128_S1x128)
    0x00000000#32 reduces_S1x128_S1 (.inl rfl) rfl) shapeCasts_S1_S1x1

/-- The accumulators as the first kernel put them out. -/
def quarter0 (X : Vec F S32x128 .f32) : FVec F S8x128 .f32 :=
  extractStridedSlice S8x128 ![0, 0] (shapeCast S32x128 X shapeCasts_S32x128_S32x128) slices_S32x128_o0_0_S8x128
/-- The second accumulator, the path cost's. -/
def quarter1 (X : Vec F S32x128 .f32) : FVec F S8x128 .f32 :=
  extractStridedSlice S8x128 ![8, 0] (shapeCast S32x128 X shapeCasts_S32x128_S32x128) slices_S32x128_o8_0_S8x128
/-- The third accumulator, that of `x²`. -/
def quarter2 (X : Vec F S32x128 .f32) : FVec F S8x128 .f32 :=
  extractStridedSlice S8x128 ![16, 0] (shapeCast S32x128 X shapeCasts_S32x128_S32x128) slices_S32x128_o16_0_S8x128
/-- The fourth accumulator, the heuristic's. -/
def quarter3 (X : Vec F S32x128 .f32) : FVec F S8x128 .f32 :=
  extractStridedSlice S8x128 ![24, 0] (shapeCast S32x128 X shapeCasts_S32x128_S32x128) slices_S32x128_o24_0_S8x128

/-- A float word in every position. -/
abbrev lit (w : BitVec 32) : FVec F S1x1 .f32 := broadcast S1x1 (Scalar.ofBits .f32 w : F .f32)
/-- The number of vertex pairs. -/
abbrev pairs : FVec F S1x1 .f32 :=
  broadcast S1x1 (Scalar.mulf (Scalar.ofBits .f32 0x46000000#32) (Scalar.ofBits .f32 0x46000000#32) : F .f32)

/-- The penalty weight from the edge count. -/
def weight (ne : FVec F S1x1 .f32) : FVec F S1x1 .f32 := mulf (lit 0x41200000#32) (addf (lit 0x3F800000#32) (divf ne pairs))

/-- The energy from the edge count, the path cost, the flow penalty, the binary penalty and the heuristic sum. -/
def energy (ne pc fl bi he : FVec F S1x1 .f32) : FVec F S1x1 .f32 :=
  subf (addf (addf (divf pc (addf ne (lit 0x358637BD#32))) (divf (mulf (weight ne) fl) (lit 0x46000000#32))) (divf (mulf (weight ne) bi) pairs))
    (mulf (lit 0x3F000000#32) (divf he (lit 0x46000000#32)))

/-- What the second kernel computes. -/
def energyOf (src dst : BitVec 32) (out : Vec F S1x8192 .f32) (inn : Vec F S8x8192 .f32) (ac : Vec F S32x128 .f32) : FVec F S1x1 .f32 :=
  energy (accTotal (quarter0 ac)) (accTotal (quarter1 ac))
    (rowTotal (mulf (deviation src dst out inn) (deviation src dst out inn)))
    (subf (rowTotal (colSums inn)) (accTotal (quarter2 ac)))
    (accTotal (quarter3 ac))

/-- What it stores: the energy in every position. -/
def spread (e : FVec F S1x1 .f32) : Vec F S1x128 .f32 :=
  broadcastTo S1x128 (shapeCast S1x1 e shapeCasts_S1x1_S1x1) broadcasts_S1x1_S1x128

section

variable {U : Type} [URA U] {c : Dev nD} {E : Set ℕ}

local notation "𝕄" => MT nD τ sig Unit (Elt F) ℕ U ℕ

variable {arg0 arg1 : Memref sig .tc .smem S1 .i32} {arg2 : Memref sig .tc .vmem S1x8192 .f32}
    {arg3 : Memref sig .tc .vmem S8x8192 .f32} {arg4 : Memref sig .tc .vmem S32x128 .f32} {arg5 : Memref sig .tc .vmem S1x128 .f32}
    {harg0 : arg0.IsWhole} {harg1 : arg1.IsWhole} {harg2 : arg2.IsWhole} {harg3 : arg3.IsWhole} {harg4 : arg4.IsWhole} {harg5 : arg5.IsWhole}

/-- The second kernel's body run on its buffers. -/
theorem pass2_run (s d : Vec F S1 .i32) (out : Vec F S1x8192 .f32) (inn : Vec F S8x8192 .f32) (ac : Vec F S32x128 .f32) (X : Vec F S1x128 .f32)
    (Q : PUnit → sProp 𝕄) :
    iprop(owns (c : Thread nD τ) arg0 fullShare s ∗ owns (c : Thread nD τ) arg1 fullShare d ∗ has c arg2 out ∗ has c arg3 inn ∗ has c arg4 ac ∗ has c arg5 X
      ∗ (iprop(owns (c : Thread nD τ) arg0 fullShare s ∗ owns (c : Thread nD τ) arg1 fullShare d ∗ has c arg2 out ∗ has c arg3 inn ∗ has c arg4 ac
          ∗ has c arg5 (spread (energyOf (word s) (word d) out inn ac))) -∗ Q ⟨⟩))
    ⊢ run c E (cc1_hopfield_pass2 arg0 harg0 arg1 harg1 arg2 harg2 arg3 harg3 arg4 harg4 arg5 harg5) Q := by
  have hw : ∀ x : Vec F S1 .i32, word x = window x ![0] S1.size inb_S1_S1_0 (Shape.Idx.first (numel1_S1.symm ▸ Nat.one_pos)) := fun x => by
    rw [window_whole]; rfl
  have h2 : window out ![0, 0] S1x8192.size inb_S1x8192_S1x8192_0_0 = out := window_whole _ _ _
  have h3 : window inn ![0, 0] S8x8192.size inb_S8x8192_S8x8192_0_0 = inn := window_whole _ _ _
  have h4 : window ac ![0, 0] S32x128.size inb_S32x128_S32x128_0_0 = ac := window_whole _ _ _
  have h5 : ∀ w, put X ![0, 0] S1x128.size w = w := fun w => put_whole X _ w inb_S1x128_S1x128_0_0
  rw [← h5 (spread (energyOf (word s) (word d) out inn ac))]
  unfold cc1_hopfield_pass2 run
  rw [wp_bind]
  unfold k1_part1 smemLoad smemLoadElt
  simp only [Prog.bind_lift, Prog.pure_eq_ret, Prog.bind_op, Prog.bind_ret]
  iintro ⟨H0, H1, H2, H3, H4, H5, Hk⟩
  iapply owns_load $$ H2; iintro H2
  iapply owns_load $$ H3; iintro H3
  iapply owns_load $$ H0; iintro H0
  iapply owns_load $$ H1; iintro H1
  iapply owns_load $$ H4; iintro H4
  iapply le_wp_ret
  dsimp only
  iapply owns_load $$ H5; iintro H5
  iapply owns_store $$ H5; iintro H5
  iapply le_wp_ret
  iapply Hk
  isplitl [H0]; · iexact H0
  isplitl [H1]; · iexact H1
  isplitl [H2]; · iexact H2
  isplitl [H3]; · iexact H3
  isplitl [H4]; · iexact H4
  rw [h2, h3, h4, ← hw, ← hw]
  iexact H5

end

end Cert.KernelIdeal.Hopfield

end
-- ==== Proof.Regions.lean ====
/-
  The two kernels as regions of the program, and the program's run: from any launch memory it ends with the
  arguments as they were, every semaphore at zero and the result at what the host reads of what the regions left.
-/
module

public import proofs.«01_k».proof.Proof.Pass2
public import proofs.«01_k».proof.Proof.Gen.KernelIdeal.Regions
public import Idealize.ShloMosaic.Lib.Pipeline.RegionArraysS

@[expose] public section

noncomputable section

namespace Cert.KernelIdeal.Hopfield

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation RegionSeg Seg)

variable {F : FTy → Type} [FloatOps F]

/-- The resources the proof tracks: the pipeline's, beside the transfers' counters. -/
abbrev UU : Type := UR sig nD τ × Counters

local notation "𝕄" => MT nD τ sig Unit (Elt F) ℕ UU ℕ

/-- The pipeline's resources within them. -/
abbrev EP : Emb (UR sig nD τ) (MT nD τ sig Unit (Elt F) ℕ UU ℕ) := embL

/-- Every semaphore of a tensor core is at one level. -/
abbrev lvs (g : GSem nD τ sig) : Finset Unit := if g.1.2 = .tc then {()} else ∅
/-- Every semaphore has the level 0. -/
abbrev lvl : GSem nD τ sig → Unit → ℕ := fun _ _ => 0

/-! ### The second kernel's region -/

section Second

variable (V : Entry F) (c : Dev nD)

/-- What the second kernel finds in its inputs' arrays. -/
abbrev src2 : Vec F S1 .i32 := ((cfg1.win 0).blk t1_0).view.read (Elt F) (V c (Proc.devRef .tc main_v0))
/-- What the second kernel reads of the destination. -/
abbrev dst2 : Vec F S1 .i32 := ((cfg1.win 1).blk t1_0).view.read (Elt F) (V c (Proc.devRef .tc main_v1))
/-- What the second kernel reads of the row sums. -/
abbrev out2 : Vec F S1x8192 .f32 := ((cfg1.win 2).blk t1_0).view.read (Elt F) (V c (Proc.devRef .tc main_v11_0))
/-- What the second kernel reads of the column sums. -/
abbrev inn2 : Vec F S8x8192 .f32 := ((cfg1.win 3).blk t1_0).view.read (Elt F) (V c (Proc.devRef .tc main_v11_1))
/-- What the second kernel reads of the accumulators. -/
abbrev acc2 : Vec F S32x128 .f32 := ((cfg1.win 4).blk t1_0).view.read (Elt F) (V c (Proc.devRef .tc main_v11_2))

/-- What it leaves in its result's buffer. -/
def res2 : Vec F S1x128 .f32 := spread (energyOf (word (src2 V c)) (word (dst2 V c)) (out2 V c) (inn2 V c) (acc2 V c))

/-- The region's proof data. -/
def dat1 : Dat τ (Elt F) Unit ℕ UU ℕ cfg1 c where
  A w := V c (Proc.devRef .tc (Pipeline.arrRef spec1 w))
  after w _ := match w with
    | ⟨0, _⟩ => src2 V c
    | ⟨1, _⟩ => dst2 V c
    | ⟨2, _⟩ => out2 V c
    | ⟨3, _⟩ => inn2 V c
    | ⟨4, _⟩ => acc2 V c
    | ⟨5, _⟩ => res2 V c
  Φ _ := Pipeline.scopedRest (Ix := Unit) (Name := ℕ) (U := UU) (Lvl := ℕ) (Val := Elt F) spec1 c
  q _ := fullShare
  owed _ := 0

/-- The second kernel finds the source in its buffer. -/
theorem before1_0 (d) : (dat1 V c).before 0 t1_0 d = src2 V c := by unfold Dat.before; rw [if_pos (fetch1_0 _)]; rfl
/-- The second kernel finds the destination in its buffer. -/
theorem before1_1 (d) : (dat1 V c).before 1 t1_0 d = dst2 V c := by unfold Dat.before; rw [if_pos (fetch1_1 _)]; rfl
/-- The second kernel finds the row sums in its buffer. -/
theorem before1_2 (d) : (dat1 V c).before 2 t1_0 d = out2 V c := by unfold Dat.before; rw [if_pos (fetch1_2 _)]; rfl
/-- The second kernel finds the column sums in its buffer. -/
theorem before1_3 (d) : (dat1 V c).before 3 t1_0 d = inn2 V c := by unfold Dat.before; rw [if_pos (fetch1_3 _)]; rfl
/-- The second kernel finds the accumulators in its buffer. -/
theorem before1_4 (d) : (dat1 V c).before 4 t1_0 d = acc2 V c := by unfold Dat.before; rw [if_pos (fetch1_4 _)]; rfl

/-- The second kernel's body at its one point. -/
theorem body1 (ι : Unit) : BodyObligation (dat1 V c) (defs₀ (F := F)) Variants.none ι Set.univ := fun t => by
  obtain rfl := fin_N1 t
  rw [bigSep_W1, bigSep_W1]
  rw [show (dat1 V c).owesAt ι t1_0.succ = (dat1 V c).owesAt ι t1_0.castSucc from rfl,
    show (dat1 V c).Φ t1_0.succ = (dat1 V c).Φ t1_0.castSucc from rfl]
  show _ ⊢ wp frame _ _ (cc1_hopfield_pass2 (F := F) _ _ _ _ _ _ _ _ _ _ _ _) _
  iintro ⟨HΦ, Howes, ⟨%d0, H0⟩, ⟨%d1, H1⟩, ⟨%d2, H2⟩, ⟨%d3, H3⟩, ⟨%d4, H4⟩, ⟨%d5, H5⟩⟩
  iapply (pass2_run (src2 V c) (dst2 V c) (out2 V c) (inn2 V c) (acc2 V c) ((dat1 V c).before 5 t1_0 d5) _)
  isplitl [H0]; · rw [before1_0]; iexact H0
  isplitl [H1]; · rw [before1_1]; iexact H1
  isplitl [H2]; · rw [before1_2]; iexact H2
  isplitl [H3]; · rw [before1_3]; iexact H3
  isplitl [H4]; · rw [before1_4]; iexact H4
  isplitl [H5]; · iexact H5
  iintro ⟨H0, H1, H2, H3, H4, H5⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  iexact H5

end Second

/-! ### What the buffers hold between the program's items -/

variable (m : (ℓ : Loc nD τ sig) → Buf (Elt F) ℓ)

/-- After the first region. -/
def X1 : Entry F := fun c => Pipeline.afterRegion (dat0 (U := UU) (V3 m) c) (V3 m c)
/-- After the second region. -/
def X2 : Entry F := fun c => Pipeline.afterRegion (dat1 (X1 m) c) (X1 m c)

/-- What the regions leave in the buffers they change. -/
def outs : Outs (F := F) := fun J r c => if J = 4 then X1 m c (Proc.devRef .tc r) else X2 m c (Proc.devRef .tc r)

/-- The proof data of the two regions. -/
def pdats : (p : Fin 2) → (c : Dev nD) → Dat τ (Elt F) Unit ℕ UU ℕ (cfgs p) c
  | ⟨0, _⟩ => fun c => dat0 (V3 m) c
  | ⟨1, _⟩ => fun c => dat1 (X1 m) c

/-- After the first kernel, every buffer holds what the first grid leaves there. -/
theorem V4_eq (c : Dev nD) (r : Ref sig .tc) : V4 m (outs m) c (Proc.devRef .tc r) = X1 m c (Proc.devRef .tc r) := by
  have hne : ∀ a b : Ref sig .tc, a ≠ b → (Proc.devRef .tc a : DevRef τ sig) ≠ Proc.devRef .tc b := fun a b h e => h (Proc.devRef_injective _ e)
  by_cases h2 : r = main_v11_2
  · subst h2; exact Function.update_self ..
  by_cases h1 : r = main_v11_1
  · subst h1; exact (Function.update_of_ne (hne _ _ h2) ..).trans (Function.update_self ..)
  by_cases h0 : r = main_v11_0
  · subst h0; exact (Function.update_of_ne (hne _ _ h2) ..).trans ((Function.update_of_ne (hne _ _ h1) ..).trans (Function.update_self ..))
  refine (Function.update_of_ne (hne _ _ h2) ..).trans ((Function.update_of_ne (hne _ _ h1) ..).trans ((Function.update_of_ne (hne _ _ h0) ..).trans ?_))
  refine (Pipeline.afterRegion_keeps (dat0 (U := UU) (V3 m) c) (V3 m c) launch0.win.arr_inj (fun _ => rfl) r ?_).symm
  intro w hw
  match w with
  | 0 => rfl
  | 1 => rfl
  | 2 => rfl
  | 3 => rfl
  | 4 => exact absurd hw.symm h0
  | 5 => exact absurd hw.symm h1
  | 6 => exact absurd hw.symm h2

/-- After the second kernel, every buffer holds what the second grid leaves there. -/
theorem V5_eq (c : Dev nD) (r : Ref sig .tc) : V5 m (outs m) c (Proc.devRef .tc r) = X2 m c (Proc.devRef .tc r) := by
  by_cases h : r = main_v12
  · subst h; exact Function.update_self ..
  refine (Function.update_of_ne (fun e => h (Proc.devRef_injective _ e)) ..).trans ((V4_eq m c r).trans ?_)
  refine (Pipeline.afterRegion_keeps (dat1 (X1 m) c) (X1 m c) launch1.win.arr_inj (fun _ => rfl) r ?_).symm
  intro w hw
  match w with
  | 0 => rfl
  | 1 => rfl
  | 2 => rfl
  | 3 => rfl
  | 4 => rfl
  | 5 => exact absurd hw.symm h

/-- Every buffer of a tensor core is one of its references. -/
theorem of_ucRefs {p : DevRef τ sig → Prop} (h : ∀ r : Ref sig .tc, p (Proc.devRef .tc r)) : ∀ b ∈ Pipeline.ucRefs τ sig, p b := by
  intro b hb
  obtain ⟨r, -, rfl⟩ := Finset.mem_map.mp (Finset.mem_filter.mp hb).1
  exact h r

/-- The unscoped buffers of core `c` at `V`. -/
abbrev bufs (c : Dev nD) (V : Valuation τ sig (Elt F)) : sProp 𝕄 := StableHlo.held (c : Thread nD τ) (Pipeline.ucRefs τ sig) V
/-- What rides along: nothing owed. -/
abbrev rest (c : Dev nD) : sProp 𝕄 := iprop(∃ W, owes (c : Thread nD τ) (0 : CellTallies nD τ sig Unit) W)

/-- The buffers held after the first kernel are those that the first grid leaves. -/
theorem held4 (c : Dev nD) : (bufs c (V4 m (outs m) c) : sProp 𝕄) = bufs c (X1 m c) :=
  StableHlo.held_congr _ (of_ucRefs fun r => V4_eq m c r)
/-- The buffers held after the second kernel are those that the second grid leaves. -/
theorem held5 (c : Dev nD) : (bufs c (V5 m (outs m) c) : sProp 𝕄) = bufs c (X2 m c) :=
  StableHlo.held_congr _ (of_ucRefs fun r => V5_eq m c r)

/-- With all levels 0, the two kernels may follow one another. -/
theorem cut (p : Fin 2) : Pipeline.LevelCut (pcfgs (F := F)) adm () lvs lvl p (fun _ => 0) (fun _ => 0) where
  hι _ _ _ := by show () ∈ (if _ then _ else _); rw [if_pos rfl]; exact Finset.mem_singleton_self _
  hιb _ _ _ := le_refl _
  hD _ _ _ h := absurd h (lt_irrefl _)

/-- The first region. -/
def reg0 : RegionSeg (pcfgs (F := F)) adm (pdats m) () defs₀ Variants.none lvs lvl 0 :=
  RegionSeg.ofHeldIn (pcfgs (F := F)) adm (pdats m) () defs₀ Variants.none lvs lvl 0 (fun _ => 0) (Pipeline.ucRefs τ sig)
    (fun _ => BI.emp) (fun _ => BI.emp) launch0.toP rfl (fun c => (body0 (V3 m) c ()).loose) (fun _ _ => rfl) (fun _ => rfl)
    (fun c w => (dat0 (U := UU) (V3 m) c).share_full (fun _ => rfl) w)
    (fun c => (by iintro ⟨H, -⟩; iexact H : _ ⊢ _).trans (enter0 (V3 m) c))
    (fun c => (leave0 (V3 m) c _).trans (by iintro H; isplitl [H]; (· iexact H); iempintro))
    (fun _ => 0) (cut 0) (fun _ => BI.emp) (V3 m) (fun _ _ => rfl)

/-- The scoped buffers the second region does not stage. -/
abbrev free1 (c : Dev nD) : sProp 𝕄 := Pipeline.scopedRest (Ix := Unit) (Name := ℕ) (U := UU) (Lvl := ℕ) (Val := Elt F) spec1 c

/-- The second region. -/
def reg1 : RegionSeg (pcfgs (F := F)) adm (pdats m) () defs₀ Variants.none lvs lvl 1 :=
  RegionSeg.ofHeldIn (pcfgs (F := F)) adm (pdats m) () defs₀ Variants.none lvs lvl 1 (fun _ => 0) (Pipeline.ucRefs τ sig)
    (fun _ => BI.emp) (fun _ => BI.emp) launch1.toP rfl (fun c => (body1 (X1 m) c ()).loose) (fun _ _ => rfl) (fun _ => rfl)
    (fun c w => (dat1 (X1 m) c).share_full (fun _ => rfl) w)
    (fun c => (by iintro ⟨H, -⟩; iexact H : iprop(free1 c ∗ BI.emp) ⊢ free1 c))
    (fun c => (by iintro H; isplitl [H]; (· iexact H); iempintro : free1 c ⊢ iprop(free1 c ∗ BI.emp)))
    (fun _ => 0) (cut 1) (fun _ => BI.emp) (X1 m) (fun _ _ => rfl)

/-- The first kernel's arrays are among the program's buffers. -/
theorem sub0 : Pipeline.arrRefs (pcfgs (F := F) 0).spec ⊆ Pipeline.ucRefs τ sig := Pipeline.arrRefs_sub_ucRefs _ launch0.win.arr_unscoped
/-- The second kernel's arrays are among the program's buffers. -/
theorem sub1 : Pipeline.arrRefs (pcfgs (F := F) 1).spec ⊆ Pipeline.ucRefs τ sig := Pipeline.arrRefs_sub_ucRefs _ launch1.win.arr_unscoped

/-- What the host holds before the first kernel is what that kernel needs. -/
theorem pre0 (c : Dev nD) : iprop(bufs c (V3 m c) ∗ rest c) ⊢ (reg0 m).pre c := by
  refine .trans ?_ (RegionSeg.ofHeldIn_pre sub0 c)
  iintro ⟨H, HO⟩
  isplitl [H]; · iexact H
  isplitl [HO]; · iexact HO
  isplitr <;> iempintro

/-- What the first kernel leaves is what the host holds after it. -/
theorem post0 (c : Dev nD) : (reg0 m).post c ⊢ iprop(bufs c (V4 m (outs m) c) ∗ rest c) := by
  rw [held4]
  refine .trans (RegionSeg.ofHeldIn_post sub0 c) ?_
  iintro ⟨H, HO, -, -⟩
  isplitl [H]; · iexact H
  iexact HO

/-- What the host holds before the second kernel is what that kernel needs. -/
theorem pre1 (c : Dev nD) : iprop(bufs c (V4 m (outs m) c) ∗ rest c) ⊢ (reg1 m).pre c := by
  rw [held4]
  refine .trans ?_ (RegionSeg.ofHeldIn_pre sub1 c)
  iintro ⟨H, HO⟩
  isplitl [H]; · iexact H
  isplitl [HO]; · iexact HO
  isplitr <;> iempintro

/-- What the second kernel leaves is what the host holds after it. -/
theorem post1 (c : Dev nD) : (reg1 m).post c ⊢ iprop(bufs c (V5 m (outs m) c) ∗ rest c) := by
  rw [held5]
  refine .trans (RegionSeg.ofHeldIn_post sub1 c) ?_
  iintro ⟨H, HO, -, -⟩
  isplitl [H]; · iexact H
  iexact HO

end Cert.KernelIdeal.Hopfield

end
-- ==== Proof.Run.lean ====
/-
  The kernel program's run: from any launch memory it ends with its arguments as they were, every semaphore at
  zero and its result at what the last buffer valuation holds.
-/
module

public import proofs.«01_k».proof.Proof.Regions

@[expose] public section

noncomputable section

namespace Cert.KernelIdeal.Hopfield

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg RegionSeg)

variable {F : FTy → Type} [FloatOps F]

local notation "𝕄" => MT nD τ sig Unit (Elt F) ℕ UU ℕ

variable (m : (ℓ : Loc nD τ sig) → Buf (Elt F) ℓ) (ρ : Dev nD → PrngReg)

/-- What the program leaves in its result. -/
def result (c : Dev nD) : Buf (Elt F) ((c.tc : Thread nD τ).loc main_v14) := V6 m (outs m) c (Proc.devRef .tc main_v14)

/-- The program's arguments and result at the end, on core `c`. -/
def EndsAt (c : Dev nD) (s : MemSt nD τ sig (Elt F)) : Prop :=
  s.mem ((c.tc : Thread nD τ).loc main_v14) = result m c
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)

/-- The launch resources: the pipelines' cells and transfers, and no counter yet. -/
def u₀ : UU := (initOf (Pipeline.cells cfgs cellOf_inj) (Pipeline.launchToks cfgs cellOf_inj), 1)

set_option backward.isDefEq.respectTransparency.types false in
/-- The program runs to its end with its arguments unchanged, its result at `result` and every semaphore at zero. -/
theorem kernel_run : θ_run (defs (F := F)) (onTc (τ := τ) (main (F := F))) ⟨m, fun _ => 0, ρ⟩
    (fun r => (∀ c : Dev nD, EndsAt m c r.2) ∧ r.2.sem = fun _ => 0) := by
  refine Pipeline.θ_run_regions_kit_dev_sems (pcfgs (F := F)) adm (pdats m) () cellOf_inj EP defs₀ Variants.none lvs lvl m ρ main
    (segs m (outs m) Variants.none lvs lvl (fun _ => rest) () (pdats m) (reg0 m) (reg1 m))
    (fun c Q => by
      rewrite [main_chain c, Seg.run_eq_chain,
        show (segs m (outs m) Variants.none lvs lvl (fun _ => rest) () (pdats m) (reg0 m) (reg1 m) c).map Seg.prog = [
          StableHlo.seq hostOps0,
          StableHlo.seq hostOps0_1,
          StableHlo.seq hostOps0_2,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide)
    0 (fun g hg => if_neg hg) (fun _ => iprop(emp)) u₀
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(bufs c (V0 m c) ∗ rest c))
    (Tₙ := fun c => bufs c (V6 m (outs m) c))
    (hch := fun c => ⟨.rfl, .rfl, .rfl, pre0 m c, (post0 m c).trans (pre1 m c), post1 m c, .rfl⟩)
    (hinit := by
      refine Pipeline.initEach lvs lvl fun c => ?_
      rw [show unscopedBufs c (fun b => m ((c : Thread nD τ).loc b)) = bufs c (V0 m c) from Pipeline.unscopedBufs_held c (V0 m c)]
      iintro ⟨⟨Hh, -, HO, -, -, -⟩, -⟩
      imodintro
      isplitl [Hh]; · iexact Hh
      iexists ∅; iexact HO)
    (QY := fun c s => EndsAt m c s) (hfin := fun c s' => ?_) (hQ := fun _ h hz => ⟨h, funext fun g => hz g (.inr (regions_no_unscoped g.2))⟩)
  unfold bufs StableHlo.held
  iintro ⟨Hh, HSI⟩
  ihave Hr := (pointsTo_read_all (Pipeline.ucRefs τ sig) (fun b => ((c : Thread nD τ).1, b)) (V6 m (outs m) c) s') $$ [Hh HSI]
  · isplitl [Hh] <;> iassumption
  icases Hr with ⟨%h, HSI⟩
  imodintro
  isplitr
  · ipureintro
    have at' : ∀ r : Ref sig .tc, r.isScoped = false → s'.mem.mem ((c.tc : Thread nD τ).loc r) = V6 m (outs m) c (Proc.devRef .tc r) := fun r hr =>
      h (Proc.devRef .tc r) (Finset.mem_filter.mpr ⟨StableHlo.devRef_mem_tcRefs r, fun h' => Bool.false_ne_true (hr.symm.trans h')⟩)
    exact ⟨at' main_v14 rfl, (at' main_arg0 rfl).trans (V6_main_arg0 m (outs m) c), (at' main_arg1 rfl).trans (V6_main_arg1 m (outs m) c),
      (at' main_arg2 rfl).trans (V6_main_arg2 m (outs m) c), (at' main_arg3 rfl).trans (V6_main_arg3 m (outs m) c),
      (at' main_arg4 rfl).trans (V6_main_arg4 m (outs m) c)⟩
  · iexact HSI

end Cert.KernelIdeal.Hopfield

end
-- ==== Proof.RefRun.lean ====
/-
  The reference's run: its operations in nine groups, what each group computes of what it reads, and the program's
  run with its result in terms of the arguments.
-/
module

public import proofs.«01_k».proof.Proof.Gen.ReferenceIdeal
public import Idealize.ShloMosaic.Lib.StableHlo.Run
public import Idealize.ShloMosaic.Lib.StableHlo.RunRead
public import Idealize.ShloMosaic.Lib.Pipeline.Frame

@[expose] public section

noncomputable section

namespace Cert.ReferenceIdeal.Hopfield

open Cert.ReferenceIdeal Cert.ReferenceIdeal.Gen Idealize.ShloMosaic Idealize.ShloMosaic.TcCoe Idealize.SL.Sem Idealize.ShloMosaic.StableHlo

variable {F : FTy → Type} [FloatOps F]

/-! ### The operations, in groups -/

/-- The operations that count the edges and weigh the penalties. -/
abbrev counting : List (HloOp τ sig (Elt F)) :=
  [ nullary main_cst (constant S_ .f32 0x49742400#32),
    unary main_cst main_v0 (broadcastInDim S8192x8192 ![] bcast_S_S8192x8192 : (⟨S_, .f32⟩ : BufTy).Contents (Elt F) → (⟨S8192x8192, .f32⟩ : BufTy).Contents (Elt F)),
    binary main_arg1 main_v0 main_v1 (cmpf .olt : (⟨S8192x8192, .f32⟩ : BufTy).Contents (Elt F) → (⟨S8192x8192, .f32⟩ : BufTy).Contents (Elt F) → (⟨S8192x8192, .i1⟩ : BufTy).Contents (Elt F)),
    unary main_v1 main_v2 (uitofp .f32 : (⟨S8192x8192, .i1⟩ : BufTy).Contents (Elt F) → (⟨S8192x8192, .f32⟩ : BufTy).Contents (Elt F)),
    nullary main_cst_0 (constant S_ .f32 0x00000000#32),
    binary main_v2 main_cst_0 main_v3 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    nullary main_cst_1 (constant S_ .f32 0x4C800000#32),
    binary main_v3 main_cst_1 main_v4 (Host.divf : (⟨S_, .f32⟩ : BufTy).Contents (Elt F) → (⟨S_, .f32⟩ : BufTy).Contents (Elt F) → (⟨S_, .f32⟩ : BufTy).Contents (Elt F)),
    nullary main_cst_2 (constant S_ .f32 0x3F800000#32),
    binary main_cst_2 main_v4 main_v5 (addf : (⟨S_, .f32⟩ : BufTy).Contents (Elt F) → (⟨S_, .f32⟩ : BufTy).Contents (Elt F) → (⟨S_, .f32⟩ : BufTy).Contents (Elt F)),
    nullary main_cst_3 (constant S_ .f32 0x41200000#32),
    binary main_cst_3 main_v5 main_v6 (mulf : (⟨S_, .f32⟩ : BufTy).Contents (Elt F) → (⟨S_, .f32⟩ : BufTy).Contents (Elt F) → (⟨S_, .f32⟩ : BufTy).Contents (Elt F)),
    nullary main_cst_4 (constant S_ .f32 0x3F800000#32),
    binary main_cst_4 main_v4 main_v7 (addf : (⟨S_, .f32⟩ : BufTy).Contents (Elt F) → (⟨S_, .f32⟩ : BufTy).Contents (Elt F) → (⟨S_, .f32⟩ : BufTy).Contents (Elt F)),
    nullary main_cst_5 (constant S_ .f32 0x41200000#32),
    binary main_cst_5 main_v7 main_v8 (mulf : (⟨S_, .f32⟩ : BufTy).Contents (Elt F) → (⟨S_, .f32⟩ : BufTy).Contents (Elt F) → (⟨S_, .f32⟩ : BufTy).Contents (Elt F)) ]

/-- The operations that compute the path variables. -/
abbrev sigmoids : List (HloOp τ sig (Elt F)) :=
  [ nullary main_cst_6 (constant S_ .f32 0x3F000000#32),
    unary main_cst_6 main_v9 (broadcastInDim S8192x8192 ![] bcast_S_S8192x8192 : (⟨S_, .f32⟩ : BufTy).Contents (Elt F) → (⟨S8192x8192, .f32⟩ : BufTy).Contents (Elt F)),
    binary main_arg0 main_v9 main_v10 (Host.divf : (⟨S8192x8192, .f32⟩ : BufTy).Contents (Elt F) → (⟨S8192x8192, .f32⟩ : BufTy).Contents (Elt F) → (⟨S8192x8192, .f32⟩ : BufTy).Contents (Elt F)),
    unary main_v10 main_v11 (Host.negf : (⟨S8192x8192, .f32⟩ : BufTy).Contents (Elt F) → (⟨S8192x8192, .f32⟩ : BufTy).Contents (Elt F)),
    unary main_v11 main_v12 (Host.exp : (⟨S8192x8192, .f32⟩ : BufTy).Contents (Elt F) → (⟨S8192x8192, .f32⟩ : BufTy).Contents (Elt F)),
    nullary main_cst_7 (constant S_ .f32 0x3F800000#32),
    unary main_cst_7 main_v13 (broadcastInDim S8192x8192 ![] bcast_S_S8192x8192 : (⟨S_, .f32⟩ : BufTy).Contents (Elt F) → (⟨S8192x8192, .f32⟩ : BufTy).Contents (Elt F)),
    binary main_v13 main_v12 main_v14 (addf : (⟨S8192x8192, .f32⟩ : BufTy).Contents (Elt F) → (⟨S8192x8192, .f32⟩ : BufTy).Contents (Elt F) → (⟨S8192x8192, .f32⟩ : BufTy).Contents (Elt F)),
    nullary main_cst_8 (constant S_ .f32 0x3F800000#32),
    unary main_cst_8 main_v15 (broadcastInDim S8192x8192 ![] bcast_S_S8192x8192 : (⟨S_, .f32⟩ : BufTy).Contents (Elt F) → (⟨S8192x8192, .f32⟩ : BufTy).Contents (Elt F)),
    binary main_v15 main_v14 main_v16 (Host.divf : (⟨S8192x8192, .f32⟩ : BufTy).Contents (Elt F) → (⟨S8192x8192, .f32⟩ : BufTy).Contents (Elt F) → (⟨S8192x8192, .f32⟩ : BufTy).Contents (Elt F)),
    binary main_v16 main_v2 main_v17 (mulf : (⟨S8192x8192, .f32⟩ : BufTy).Contents (Elt F) → (⟨S8192x8192, .f32⟩ : BufTy).Contents (Elt F) → (⟨S8192x8192, .f32⟩ : BufTy).Contents (Elt F)) ]

/-- The operations that compute the flow penalty. -/
abbrev flows : List (HloOp τ sig (Elt F)) :=
  [ nullary main_cst_9 (constant S_ .f32 0x00000000#32),
    binary main_v17 main_cst_9 main_v18 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_10 (constant S_ .f32 0x00000000#32),
    binary main_v17 main_cst_10 main_v19 ((fun x v => Host.reduceAdd x v reducesTo_S8192x8192_S8192_d0 h_S_) : (⟨S8192x8192, .f32⟩ : BufTy).Contents (Elt F) → (⟨S_, .f32⟩ : BufTy).Contents (Elt F) → (⟨S8192, .f32⟩ : BufTy).Contents (Elt F)),
    TRef.unary (TRef.of (T := ⟨S_, .i32⟩) main_arg3) (TRef.of (T := ⟨S1, .i32⟩) main_call0_v0) (broadcastInDim S1 ![] bcast_S_S1),
    TRef.nullary (TRef.of (T := ⟨S8192, .i32⟩) main_call0_v1) (iotaInDim S8192 32 0),
    TRef.unary (TRef.of (T := ⟨S1, .i32⟩) main_call0_v0) (TRef.of (T := ⟨S8192, .i32⟩) main_call0_v2) (broadcastInDim S8192 ![0] bcast_S1_S8192_0),
    TRef.binary (TRef.of (T := ⟨S8192, .i32⟩) main_call0_v2) (TRef.of (T := ⟨S8192, .i32⟩) main_call0_v1) (TRef.of (T := ⟨S8192, .i1⟩) main_call0_v3) (cmpi .eq),
    TRef.unary (TRef.of (T := ⟨S8192, .i1⟩) main_call0_v3) (TRef.of (T := ⟨S8192, .f32⟩) main_v20) (uitofp .f32),
    TRef.unary (TRef.of (T := ⟨S_, .i32⟩) main_arg4) (TRef.of (T := ⟨S1, .i32⟩) main_call1_v0) (broadcastInDim S1 ![] bcast_S_S1),
    TRef.nullary (TRef.of (T := ⟨S8192, .i32⟩) main_call1_v1) (iotaInDim S8192 32 0),
    TRef.unary (TRef.of (T := ⟨S1, .i32⟩) main_call1_v0) (TRef.of (T := ⟨S8192, .i32⟩) main_call1_v2) (broadcastInDim S8192 ![0] bcast_S1_S8192_0),
    TRef.binary (TRef.of (T := ⟨S8192, .i32⟩) main_call1_v2) (TRef.of (T := ⟨S8192, .i32⟩) main_call1_v1) (TRef.of (T := ⟨S8192, .i1⟩) main_call1_v3) (cmpi .eq),
    TRef.unary (TRef.of (T := ⟨S8192, .i1⟩) main_call1_v3) (TRef.of (T := ⟨S8192, .f32⟩) main_v21) (uitofp .f32),
    binary main_v20 main_v21 main_v22 (subf : (⟨S8192, .f32⟩ : BufTy).Contents (Elt F) → (⟨S8192, .f32⟩ : BufTy).Contents (Elt F) → (⟨S8192, .f32⟩ : BufTy).Contents (Elt F)),
    binary main_v18 main_v19 main_v23 (subf : (⟨S8192, .f32⟩ : BufTy).Contents (Elt F) → (⟨S8192, .f32⟩ : BufTy).Contents (Elt F) → (⟨S8192, .f32⟩ : BufTy).Contents (Elt F)),
    binary main_v23 main_v22 main_v24 (subf : (⟨S8192, .f32⟩ : BufTy).Contents (Elt F) → (⟨S8192, .f32⟩ : BufTy).Contents (Elt F) → (⟨S8192, .f32⟩ : BufTy).Contents (Elt F)),
    binary main_v24 main_v24 main_v25 (mulf : (⟨S8192, .f32⟩ : BufTy).Contents (Elt F) → (⟨S8192, .f32⟩ : BufTy).Contents (Elt F) → (⟨S8192, .f32⟩ : BufTy).Contents (Elt F)),
    nullary main_cst_11 (constant S_ .f32 0x00000000#32),
    binary main_v25 main_cst_11 main_v26 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)) ]

/-- The operations that compute the path cost and the binary penalty. -/
abbrev costs : List (HloOp τ sig (Elt F)) :=
  [ binary main_arg1 main_v17 main_v27 (mulf : (⟨S8192x8192, .f32⟩ : BufTy).Contents (Elt F) → (⟨S8192x8192, .f32⟩ : BufTy).Contents (Elt F) → (⟨S8192x8192, .f32⟩ : BufTy).Contents (Elt F)),
    nullary main_cst_12 (constant S_ .f32 0x00000000#32),
    binary main_v27 main_cst_12 main_v28 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    nullary main_cst_13 (constant S_ .f32 0x3F800000#32),
    unary main_cst_13 main_v29 (broadcastInDim S8192x8192 ![] bcast_S_S8192x8192 : (⟨S_, .f32⟩ : BufTy).Contents (Elt F) → (⟨S8192x8192, .f32⟩ : BufTy).Contents (Elt F)),
    binary main_v29 main_v17 main_v30 (subf : (⟨S8192x8192, .f32⟩ : BufTy).Contents (Elt F) → (⟨S8192x8192, .f32⟩ : BufTy).Contents (Elt F) → (⟨S8192x8192, .f32⟩ : BufTy).Contents (Elt F)),
    binary main_v17 main_v30 main_v31 (mulf : (⟨S8192x8192, .f32⟩ : BufTy).Contents (Elt F) → (⟨S8192x8192, .f32⟩ : BufTy).Contents (Elt F) → (⟨S8192x8192, .f32⟩ : BufTy).Contents (Elt F)),
    nullary main_cst_14 (constant S_ .f32 0x00000000#32),
    binary main_v31 main_cst_14 main_v32 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)) ]

/-- The operations that compute the destination's index. -/
abbrev indices : List (HloOp τ sig (Elt F)) :=
  [ nullary main_c (constantI S_ 32 0#32),
    binary main_arg4 main_c main_v33 (cmpi .slt : (⟨S_, .i32⟩ : BufTy).Contents (Elt F) → (⟨S_, .i32⟩ : BufTy).Contents (Elt F) → (⟨S_, .i1⟩ : BufTy).Contents (Elt F)),
    nullary main_c_15 (constantI S_ 32 8192#32),
    binary main_arg4 main_c_15 main_v34 (addi : (⟨S_, .i32⟩ : BufTy).Contents (Elt F) → (⟨S_, .i32⟩ : BufTy).Contents (Elt F) → (⟨S_, .i32⟩ : BufTy).Contents (Elt F)),
    ternary main_v33 main_v34 main_arg4 main_v35 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_16 (constantI S_ 32 0#32),
    nullary main_c_17 (constantI S_ 32 0#32),
    binary main_c_16 main_c_17 main_v36 (cmpi .slt : (⟨S_, .i32⟩ : BufTy).Contents (Elt F) → (⟨S_, .i32⟩ : BufTy).Contents (Elt F) → (⟨S_, .i1⟩ : BufTy).Contents (Elt F)),
    nullary main_c_18 (constantI S_ 32 0#32),
    nullary main_c_19 (constantI S_ 32 2#32),
    binary main_c_18 main_c_19 main_v37 (addi : (⟨S_, .i32⟩ : BufTy).Contents (Elt F) → (⟨S_, .i32⟩ : BufTy).Contents (Elt F) → (⟨S_, .i32⟩ : BufTy).Contents (Elt F)),
    nullary main_c_20 (constantI S_ 32 0#32),
    ternary main_v36 main_v37 main_c_20 main_v38 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]

/-- The operation that reads the destination's coordinates. -/
abbrev places : List (HloOp τ sig (Elt F)) :=
  [ unaryIndexed main_arg2 ![main_v35, main_v38] ⟨S_, .i32⟩ main_v39 ((fun x i => Host.dynamicSlice S1x2 x (fun k => (i k (Shape.Idx.first h_S_)).toInt) sliceFits_S8192x2_S1x2) : (⟨S8192x2, .f32⟩ : BufTy).Contents (Elt F) → (Fin 2 → (⟨S_, .i32⟩ : BufTy).Contents (Elt F)) → (⟨S1x2, .f32⟩ : BufTy).Contents (Elt F)) ]

/-- The operations that compute the distances to the destination. -/
abbrev distances : List (HloOp τ sig (Elt F)) :=
  [ reshape main_v39 main_v40 (rfl : (.f32 : EltTy) = .f32) shapeCasts_S1x2_S2,
    unary main_v40 main_v41 (broadcastInDim S1x2 ![1] bcast_S2_S1x2_1 : (⟨S2, .f32⟩ : BufTy).Contents (Elt F) → (⟨S1x2, .f32⟩ : BufTy).Contents (Elt F)),
    unary main_v41 main_v42 (broadcastInDim S8192x2 ![0, 1] bcast_S1x2_S8192x2_0_1 : (⟨S1x2, .f32⟩ : BufTy).Contents (Elt F) → (⟨S8192x2, .f32⟩ : BufTy).Contents (Elt F)),
    binary main_arg2 main_v42 main_v43 (subf : (⟨S8192x2, .f32⟩ : BufTy).Contents (Elt F) → (⟨S8192x2, .f32⟩ : BufTy).Contents (Elt F) → (⟨S8192x2, .f32⟩ : BufTy).Contents (Elt F)),
    TRef.binary (TRef.of (T := ⟨S8192x2, .f32⟩) main_v43) (TRef.of (T := ⟨S8192x2, .f32⟩) main_v43) (TRef.of (T := ⟨S8192x2, .f32⟩) main_call2_v0) mulf,
    TRef.nullary (TRef.of (T := ⟨S_, .f32⟩) main_call2_cst) (constant S_ .f32 0x00000000#32),
    TRef.binary (TRef.of (T := ⟨S8192x2, .f32⟩) main_call2_v0) (TRef.of (T := ⟨S_, .f32⟩) main_call2_cst) (TRef.of (T := ⟨S8192, .f32⟩) main_call2_v1) (fun x v => Host.reduceAdd x v reducesTo_S8192x2_S8192_d1 h_S_),
    TRef.unary (TRef.of (T := ⟨S8192, .f32⟩) main_call2_v1) (TRef.of (T := ⟨S8192, .f32⟩) main_v44) Host.sqrt ]

/-- The operations that compute the heuristic term. -/
abbrev heuristics : List (HloOp τ sig (Elt F)) :=
  [ unary main_v44 main_v45 (broadcastInDim S8192x1 ![0] bcast_S8192_S8192x1_0 : (⟨S8192, .f32⟩ : BufTy).Contents (Elt F) → (⟨S8192x1, .f32⟩ : BufTy).Contents (Elt F)),
    unary main_v44 main_v46 (broadcastInDim S1x8192 ![1] bcast_S8192_S1x8192_1 : (⟨S8192, .f32⟩ : BufTy).Contents (Elt F) → (⟨S1x8192, .f32⟩ : BufTy).Contents (Elt F)),
    unary main_v45 main_v47 (broadcastInDim S8192x8192 ![0, 1] bcast_S8192x1_S8192x8192_0_1 : (⟨S8192x1, .f32⟩ : BufTy).Contents (Elt F) → (⟨S8192x8192, .f32⟩ : BufTy).Contents (Elt F)),
    unary main_v46 main_v48 (broadcastInDim S8192x8192 ![0, 1] bcast_S1x8192_S8192x8192_0_1 : (⟨S1x8192, .f32⟩ : BufTy).Contents (Elt F) → (⟨S8192x8192, .f32⟩ : BufTy).Contents (Elt F)),
    binary main_v47 main_v48 main_v49 (subf : (⟨S8192x8192, .f32⟩ : BufTy).Contents (Elt F) → (⟨S8192x8192, .f32⟩ : BufTy).Contents (Elt F) → (⟨S8192x8192, .f32⟩ : BufTy).Contents (Elt F)),
    nullary main_cst_21 (constant S_ .f32 0x00000000#32),
    unary main_cst_21 main_v50 (broadcastInDim S8192x8192 ![] bcast_S_S8192x8192 : (⟨S_, .f32⟩ : BufTy).Contents (Elt F) → (⟨S8192x8192, .f32⟩ : BufTy).Contents (Elt F)),
    binary main_v49 main_v50 main_v51 (maximumf : (⟨S8192x8192, .f32⟩ : BufTy).Contents (Elt F) → (⟨S8192x8192, .f32⟩ : BufTy).Contents (Elt F) → (⟨S8192x8192, .f32⟩ : BufTy).Contents (Elt F)),
    binary main_v17 main_v51 main_v52 (mulf : (⟨S8192x8192, .f32⟩ : BufTy).Contents (Elt F) → (⟨S8192x8192, .f32⟩ : BufTy).Contents (Elt F) → (⟨S8192x8192, .f32⟩ : BufTy).Contents (Elt F)),
    nullary main_cst_22 (constant S_ .f32 0x00000000#32),
    binary main_v52 main_cst_22 main_v53 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    nullary main_cst_23 (constant S_ .f32 0x46000000#32),
    binary main_v53 main_cst_23 main_v54 (Host.divf : (⟨S_, .f32⟩ : BufTy).Contents (Elt F) → (⟨S_, .f32⟩ : BufTy).Contents (Elt F) → (⟨S_, .f32⟩ : BufTy).Contents (Elt F)) ]

/-- The operations that combine the terms. -/
abbrev combining : List (HloOp τ sig (Elt F)) :=
  [ nullary main_cst_24 (constant S_ .f32 0x3F800000#32),
    binary main_cst_24 main_v28 main_v55 (mulf : (⟨S_, .f32⟩ : BufTy).Contents (Elt F) → (⟨S_, .f32⟩ : BufTy).Contents (Elt F) → (⟨S_, .f32⟩ : BufTy).Contents (Elt F)),
    nullary main_cst_25 (constant S_ .f32 0x358637BD#32),
    binary main_v3 main_cst_25 main_v56 (addf : (⟨S_, .f32⟩ : BufTy).Contents (Elt F) → (⟨S_, .f32⟩ : BufTy).Contents (Elt F) → (⟨S_, .f32⟩ : BufTy).Contents (Elt F)),
    binary main_v55 main_v56 main_v57 (Host.divf : (⟨S_, .f32⟩ : BufTy).Contents (Elt F) → (⟨S_, .f32⟩ : BufTy).Contents (Elt F) → (⟨S_, .f32⟩ : BufTy).Contents (Elt F)),
    binary main_v6 main_v26 main_v58 (mulf : (⟨S_, .f32⟩ : BufTy).Contents (Elt F) → (⟨S_, .f32⟩ : BufTy).Contents (Elt F) → (⟨S_, .f32⟩ : BufTy).Contents (Elt F)),
    nullary main_cst_26 (constant S_ .f32 0x46000000#32),
    binary main_v58 main_cst_26 main_v59 (Host.divf : (⟨S_, .f32⟩ : BufTy).Contents (Elt F) → (⟨S_, .f32⟩ : BufTy).Contents (Elt F) → (⟨S_, .f32⟩ : BufTy).Contents (Elt F)),
    binary main_v57 main_v59 main_v60 (addf : (⟨S_, .f32⟩ : BufTy).Contents (Elt F) → (⟨S_, .f32⟩ : BufTy).Contents (Elt F) → (⟨S_, .f32⟩ : BufTy).Contents (Elt F)),
    binary main_v8 main_v32 main_v61 (mulf : (⟨S_, .f32⟩ : BufTy).Contents (Elt F) → (⟨S_, .f32⟩ : BufTy).Contents (Elt F) → (⟨S_, .f32⟩ : BufTy).Contents (Elt F)),
    nullary main_cst_27 (constant S_ .f32 0x4C800000#32),
    binary main_v61 main_cst_27 main_v62 (Host.divf : (⟨S_, .f32⟩ : BufTy).Contents (Elt F) → (⟨S_, .f32⟩ : BufTy).Contents (Elt F) → (⟨S_, .f32⟩ : BufTy).Contents (Elt F)),
    binary main_v60 main_v62 main_v63 (addf : (⟨S_, .f32⟩ : BufTy).Contents (Elt F) → (⟨S_, .f32⟩ : BufTy).Contents (Elt F) → (⟨S_, .f32⟩ : BufTy).Contents (Elt F)),
    nullary main_cst_28 (constant S_ .f32 0x3F000000#32),
    binary main_cst_28 main_v54 main_v64 (mulf : (⟨S_, .f32⟩ : BufTy).Contents (Elt F) → (⟨S_, .f32⟩ : BufTy).Contents (Elt F) → (⟨S_, .f32⟩ : BufTy).Contents (Elt F)),
    binary main_v63 main_v64 main_v65 (subf : (⟨S_, .f32⟩ : BufTy).Contents (Elt F) → (⟨S_, .f32⟩ : BufTy).Contents (Elt F) → (⟨S_, .f32⟩ : BufTy).Contents (Elt F)) ]

/-! ### What each group leaves unchanged -/

/-- Counting the edges leaves every buffer that it doesn't write. -/
theorem counting_keeps (V : Valuation τ sig (Elt F)) {r : Ref sig .tc}
    (h : r ∉ [main_cst, main_v0, main_v1, main_v2, main_cst_0, main_v3, main_cst_1, main_v4, main_cst_2, main_v5, main_cst_3, main_v6, main_cst_4, main_v7, main_cst_5, main_v8]) :
    after counting V (no_index (Proc.devRef .tc r)) = V (Proc.devRef .tc r) := after_unwritten _ rfl h V

/-- Computing `x` leaves every buffer that it doesn't write. -/
theorem sigmoids_keeps (V : Valuation τ sig (Elt F)) {r : Ref sig .tc}
    (h : r ∉ [main_cst_6, main_v9, main_v10, main_v11, main_v12, main_cst_7, main_v13, main_v14, main_cst_8, main_v15, main_v16, main_v17]) :
    after sigmoids V (no_index (Proc.devRef .tc r)) = V (Proc.devRef .tc r) := after_unwritten _ rfl h V

/-- Computing the flow penalty leaves every buffer that it doesn't write. -/
theorem flows_keeps (V : Valuation τ sig (Elt F)) {r : Ref sig .tc}
    (h : r ∉ [main_cst_9, main_v18, main_cst_10, main_v19, main_call0_v0, main_call0_v1, main_call0_v2, main_call0_v3, main_v20, main_call1_v0, main_call1_v1, main_call1_v2, main_call1_v3, main_v21, main_v22, main_v23, main_v24, main_v25, main_cst_11, main_v26]) :
    after flows V (no_index (Proc.devRef .tc r)) = V (Proc.devRef .tc r) := after_unwritten _ rfl h V

/-- Computing the path cost and the binary penalty leaves every buffer that it doesn't write. -/
theorem costs_keeps (V : Valuation τ sig (Elt F)) {r : Ref sig .tc}
    (h : r ∉ [main_v27, main_cst_12, main_v28, main_cst_13, main_v29, main_v30, main_v31, main_cst_14, main_v32]) :
    after costs V (no_index (Proc.devRef .tc r)) = V (Proc.devRef .tc r) := after_unwritten _ rfl h V

/-- Wrapping the destination leaves every buffer that it doesn't write. -/
theorem indices_keeps (V : Valuation τ sig (Elt F)) {r : Ref sig .tc}
    (h : r ∉ [main_c, main_v33, main_c_15, main_v34, main_v35, main_c_16, main_c_17, main_v36, main_c_18, main_c_19, main_v37, main_c_20, main_v38]) :
    after indices V (no_index (Proc.devRef .tc r)) = V (Proc.devRef .tc r) := after_unwritten _ rfl h V

/-- Reading the destination's coordinates leaves every buffer that it doesn't write. -/
theorem places_keeps (V : Valuation τ sig (Elt F)) {r : Ref sig .tc}
    (h : r ∉ [main_v39]) :
    after places V (no_index (Proc.devRef .tc r)) = V (Proc.devRef .tc r) := after_unwritten _ rfl h V

/-- Computing the distances leaves every buffer that it doesn't write. -/
theorem distances_keeps (V : Valuation τ sig (Elt F)) {r : Ref sig .tc}
    (h : r ∉ [main_v40, main_v41, main_v42, main_v43, main_call2_v0, main_call2_cst, main_call2_v1, main_v44]) :
    after distances V (no_index (Proc.devRef .tc r)) = V (Proc.devRef .tc r) := after_unwritten _ rfl h V

/-- Computing the heuristic leaves every buffer that it doesn't write. -/
theorem heuristics_keeps (V : Valuation τ sig (Elt F)) {r : Ref sig .tc}
    (h : r ∉ [main_v45, main_v46, main_v47, main_v48, main_v49, main_cst_21, main_v50, main_v51, main_v52, main_cst_22, main_v53, main_cst_23, main_v54]) :
    after heuristics V (no_index (Proc.devRef .tc r)) = V (Proc.devRef .tc r) := after_unwritten _ rfl h V

/-- Combining the terms leaves every buffer that it doesn't write. -/
theorem combining_keeps (V : Valuation τ sig (Elt F)) {r : Ref sig .tc}
    (h : r ∉ [main_cst_24, main_v55, main_cst_25, main_v56, main_v57, main_v58, main_cst_26, main_v59, main_v60, main_v61, main_cst_27, main_v62, main_v63, main_cst_28, main_v64, main_v65]) :
    after combining V (no_index (Proc.devRef .tc r)) = V (Proc.devRef .tc r) := after_unwritten _ rfl h V

/-- The whole line of operations. -/
abbrev line : List (HloOp τ sig (Elt F)) := counting ++ (sigmoids ++ (flows ++ (costs ++ (indices ++ (places ++ (distances ++ (heuristics ++ combining)))))))

set_option maxRecDepth 8192 in
set_option maxHeartbeats 4000000 in
/-- The reference is the sequence of its operations. -/
theorem main_eq (c : Dev nD) : main (F := F) c = seq line := rfl
/-- The reference has no scoped buffers. -/
theorem scopedRefs_eq : (Finset.univ.filter fun b : Ref sig .tc => b.isScoped) = ∅ := by decide
/-- The reference has no scoped semaphores. -/
theorem scopedSems_eq : (Finset.univ.filter fun sm : SemLoc sig => sm.isScoped .tc) = ∅ := by decide
set_option maxRecDepth 8192 in
/-- Every operation of the reference works on the program's buffers. -/
theorem line_sub : (line : List (HloOp τ sig (Elt F))).Forall fun op => op.bufs ⊆ tcRefs τ sig :=
  ⟨nullary_bufs_sub .., unary_bufs_sub .., binary_bufs_sub .., unary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., binary_bufs_sub .., nullary_bufs_sub .., binary_bufs_sub .., unary_bufs_sub .., nullary_bufs_sub .., unary_bufs_sub .., binary_bufs_sub .., unary_bufs_sub .., unary_bufs_sub .., nullary_bufs_sub .., unary_bufs_sub .., binary_bufs_sub .., unary_bufs_sub .., binary_bufs_sub .., binary_bufs_sub .., binary_bufs_sub .., binary_bufs_sub .., nullary_bufs_sub .., binary_bufs_sub .., binary_bufs_sub .., nullary_bufs_sub .., binary_bufs_sub .., nullary_bufs_sub .., unary_bufs_sub .., binary_bufs_sub .., binary_bufs_sub .., nullary_bufs_sub .., binary_bufs_sub .., nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., unaryIndexed_bufs_sub .., reshape_bufs_sub .., unary_bufs_sub .., unary_bufs_sub .., binary_bufs_sub .., binary_bufs_sub .., nullary_bufs_sub .., binary_bufs_sub .., unary_bufs_sub .., unary_bufs_sub .., unary_bufs_sub .., unary_bufs_sub .., unary_bufs_sub .., binary_bufs_sub .., nullary_bufs_sub .., unary_bufs_sub .., binary_bufs_sub .., binary_bufs_sub .., nullary_bufs_sub .., binary_bufs_sub .., nullary_bufs_sub .., binary_bufs_sub .., nullary_bufs_sub .., binary_bufs_sub .., nullary_bufs_sub .., binary_bufs_sub .., binary_bufs_sub .., binary_bufs_sub .., nullary_bufs_sub .., binary_bufs_sub .., binary_bufs_sub .., binary_bufs_sub .., nullary_bufs_sub .., binary_bufs_sub .., binary_bufs_sub .., nullary_bufs_sub .., binary_bufs_sub .., binary_bufs_sub ..⟩

/-! ### What each group computes -/

/-- A float word in every position of a matrix. -/
abbrev fill (w : BitVec 32) : FVec F S8192x8192 .f32 := broadcastInDim S8192x8192 ![] bcast_S_S8192x8192 (constant S_ .f32 w)

/-- A float word alone. -/
abbrev lone (w : BitVec 32) : FVec F S_ .f32 := constant S_ .f32 w

/-- One for an edge, zero otherwise. -/
def validOf (dm : FVec F S8192x8192 .f32) : FVec F S8192x8192 .f32 := uitofp .f32 (cmpf .olt dm (fill 0x49742400#32))

/-- The sum of a matrix. -/
def total (x : FVec F S8192x8192 .f32) : FVec F S_ .f32 := Host.reduceAdd x (lone 0x00000000#32) reducesTo_S8192x8192_S_d0_1 h_S_

/-- The penalties' weight from the edge count. -/
def weightOf (ne : FVec F S_ .f32) : FVec F S_ .f32 :=
  mulf (lone 0x41200000#32) (addf (lone 0x3F800000#32) (Host.divf ne (lone 0x4C800000#32)))

/-- The path variables from the logits and the edges. -/
def pathOf (lg va : FVec F S8192x8192 .f32) : FVec F S8192x8192 .f32 :=
  mulf (Host.divf (fill 0x3F800000#32) (addf (fill 0x3F800000#32) (Host.exp (Host.negf (Host.divf lg (fill 0x3F000000#32)))))) va

/-- The sums of the rows. -/
def rowSums (x : FVec F S8192x8192 .f32) : FVec F S8192 .f32 := Host.reduceAdd x (lone 0x00000000#32) reducesTo_S8192x8192_S8192_d1 h_S_

/-- The sums of the columns. -/
def colSums (x : FVec F S8192x8192 .f32) : FVec F S8192 .f32 := Host.reduceAdd x (lone 0x00000000#32) reducesTo_S8192x8192_S8192_d0 h_S_

/-- The vector that is one at a vertex and zero elsewhere. -/
def oneHot (s : IVec S_ 32) : FVec F S8192 .f32 :=
  uitofp .f32 (cmpi .eq (broadcastInDim S8192 ![0] bcast_S1_S8192_0 (broadcastInDim S1 ![] bcast_S_S1 s)) (iotaInDim S8192 32 0))

/-- The flow's deviation from its target at every vertex. -/
def gapOf (x : FVec F S8192x8192 .f32) (s d : IVec S_ 32) : FVec F S8192 .f32 :=
  subf (subf (rowSums x) (colSums x)) (subf (oneHot s) (oneHot d))

/-- The flow penalty. -/
def flowOf (x : FVec F S8192x8192 .f32) (s d : IVec S_ 32) : FVec F S_ .f32 :=
  Host.reduceAdd (mulf (gapOf x s d) (gapOf x s d)) (lone 0x00000000#32) reducesTo_S8192_S_d0 h_S_

/-- The binary penalty. -/
def binaryOf (x : FVec F S8192x8192 .f32) : FVec F S_ .f32 := total (mulf x (subf (fill 0x3F800000#32) x))

/-- The destination counted from the front. -/
def rowOf (d : IVec S_ 32) : IVec S_ 32 := select (cmpi .slt d (constantI S_ 32 0#32)) (addi d (constantI S_ 32 8192#32)) d

/-- The first column of a row. -/
def startOf : IVec S_ 32 :=
  select (cmpi .slt (constantI S_ 32 0#32) (constantI S_ 32 0#32)) (addi (constantI S_ 32 0#32) (constantI S_ 32 2#32)) (constantI S_ 32 0#32)

/-- The destination's coordinates. -/
def placeOf (co : FVec F S8192x2 .f32) (d : IVec S_ 32) : FVec F S1x2 .f32 :=
  Host.dynamicSlice S1x2 co (fun k => ((![rowOf d, startOf] : Fin 2 → IVec S_ 32) k (Shape.Idx.first h_S_)).toInt) sliceFits_S8192x2_S1x2

/-- The coordinates' offsets from the destination's. -/
def offsetOf (co : FVec F S8192x2 .f32) (p : FVec F S1x2 .f32) : FVec F S8192x2 .f32 :=
  subf co (broadcastInDim S8192x2 ![0, 1] bcast_S1x2_S8192x2_0_1 (broadcastInDim S1x2 ![1] bcast_S2_S1x2_1 (shapeCast _ p shapeCasts_S1x2_S2)))

/-- The distances to the destination. -/
def distanceOf (co : FVec F S8192x2 .f32) (p : FVec F S1x2 .f32) : FVec F S8192 .f32 :=
  Host.sqrt (Host.reduceAdd (mulf (offsetOf co p) (offsetOf co p)) (lone 0x00000000#32) reducesTo_S8192x2_S8192_d1 h_S_)

/-- How much farther a row's vertex is than a column's. -/
def fartherOf (d : FVec F S8192 .f32) : FVec F S8192x8192 .f32 :=
  maximumf (subf (broadcastInDim S8192x8192 ![0, 1] bcast_S8192x1_S8192x8192_0_1 (broadcastInDim S8192x1 ![0] bcast_S8192_S8192x1_0 d))
    (broadcastInDim S8192x8192 ![0, 1] bcast_S1x8192_S8192x8192_0_1 (broadcastInDim S1x8192 ![1] bcast_S8192_S1x8192_1 d))) (fill 0x00000000#32)

/-- The heuristic term. -/
def heuristicOf (x : FVec F S8192x8192 .f32) (d : FVec F S8192 .f32) : FVec F S_ .f32 :=
  Host.divf (total (mulf x (fartherOf d))) (lone 0x46000000#32)

/-- The energy from its terms. -/
def combine (ne w1 w2 fl pc bi he : FVec F S_ .f32) : FVec F S_ .f32 :=
  subf (addf (addf (Host.divf (mulf (lone 0x3F800000#32) pc) (addf ne (lone 0x358637BD#32))) (Host.divf (mulf w1 fl) (lone 0x46000000#32)))
    (Host.divf (mulf w2 bi) (lone 0x4C800000#32))) (mulf (lone 0x3F000000#32) he)

variable (V : Valuation τ sig (Elt F))

/-- Counting the edges leaves the edge mask. -/
theorem counting_v2 : after counting V (no_index (Proc.devRef .tc main_v2)) = validOf (V (Proc.devRef .tc main_arg1)) := by
  after_results_simp <;> rfl
/-- Counting the edges leaves the number of edges. -/
theorem counting_v3 : after counting V (no_index (Proc.devRef .tc main_v3)) = total (validOf (V (Proc.devRef .tc main_arg1))) := by
  after_results_simp <;> rfl
/-- Counting the edges leaves the weight of the flow penalty. -/
theorem counting_v6 : after counting V (no_index (Proc.devRef .tc main_v6)) = weightOf (total (validOf (V (Proc.devRef .tc main_arg1)))) := by
  after_results_simp <;> rfl
/-- Counting the edges leaves the weight of the binary penalty. -/
theorem counting_v8 : after counting V (no_index (Proc.devRef .tc main_v8)) = weightOf (total (validOf (V (Proc.devRef .tc main_arg1)))) := by
  after_results_simp <;> rfl
/-- Computing `x` leaves the masked sigmoid of the logits over the temperature. -/
theorem sigmoids_v17 : after sigmoids V (no_index (Proc.devRef .tc main_v17)) = pathOf (V (Proc.devRef .tc main_arg0)) (V (Proc.devRef .tc main_v2)) := by
  after_results_simp <;> rfl
/-- Computing the flow penalty leaves the sum of the squared deviations. -/
theorem flows_v26 : after flows V (no_index (Proc.devRef .tc main_v26)) = flowOf (V (Proc.devRef .tc main_v17)) (V (Proc.devRef .tc main_arg3)) (V (Proc.devRef .tc main_arg4)) := by
  simp only [flows, TRef.binary, TRef.nullary, TRef.unary, TRef.toBuf, TRef.ofBuf, cast_eq]
  after_results_simp <;> rfl
/-- Computing the costs leaves the path cost. -/
theorem costs_v28 : after costs V (no_index (Proc.devRef .tc main_v28)) = total (mulf (V (Proc.devRef .tc main_arg1)) (V (Proc.devRef .tc main_v17))) := by
  after_results_simp <;> rfl
/-- Computing the costs leaves the binary penalty. -/
theorem costs_v32 : after costs V (no_index (Proc.devRef .tc main_v32)) = binaryOf (V (Proc.devRef .tc main_v17)) := by
  after_results_simp <;> rfl
/-- Wrapping the destination leaves the row's index. -/
theorem indices_v35 : after indices V (no_index (Proc.devRef .tc main_v35)) = rowOf (V (Proc.devRef .tc main_arg4)) := by
  after_results_simp <;> rfl
/-- Wrapping the destination leaves the column's index, 0. -/
theorem indices_v38 : after indices V (no_index (Proc.devRef .tc main_v38)) = startOf := by
  after_results_simp <;> rfl
/-- Reading the destination's coordinates leaves the slice at the two indices. -/
theorem places_v39 : after places V (no_index (Proc.devRef .tc main_v39))
    = Host.dynamicSlice S1x2 (V (Proc.devRef .tc main_arg2)) (fun k => ((![V (Proc.devRef .tc main_v35), V (Proc.devRef .tc main_v38)] : Fin 2 → IVec S_ 32) k (Shape.Idx.first h_S_)).toInt) sliceFits_S8192x2_S1x2 := by
  rw [places, after_cons, after_nil, unaryIndexed_result]
  congr 1
  funext k
  fin_cases k <;> rfl
/-- Computing the distances leaves the norms of the differences to the destination. -/
theorem distances_v44 : after distances V (no_index (Proc.devRef .tc main_v44))
    = distanceOf (V (Proc.devRef .tc main_arg2)) (V (Proc.devRef .tc main_v39)) := by
  simp only [distances, TRef.binary, TRef.nullary, TRef.unary, TRef.toBuf, TRef.ofBuf, cast_eq]
  after_results_simp
  rfl
/-- Computing the heuristic leaves its sum over 8192. -/
theorem heuristics_v54 : after heuristics V (no_index (Proc.devRef .tc main_v54)) = heuristicOf (V (Proc.devRef .tc main_v17)) (V (Proc.devRef .tc main_v44)) := by
  after_results_simp <;> rfl
/-- Combining the terms leaves the energy. -/
theorem combining_v65 : after combining V (no_index (Proc.devRef .tc main_v65))
    = combine (V (Proc.devRef .tc main_v3)) (V (Proc.devRef .tc main_v6)) (V (Proc.devRef .tc main_v8)) (V (Proc.devRef .tc main_v26))
        (V (Proc.devRef .tc main_v28)) (V (Proc.devRef .tc main_v32)) (V (Proc.devRef .tc main_v54)) := by
  after_results_simp <;> rfl

/-! ### The run -/

/-- The energy as the reference computes it. -/
def energyR (lg dm : FVec F S8192x8192 .f32) (co : FVec F S8192x2 .f32) (s d : IVec S_ 32) : FVec F S_ .f32 :=
  combine (total (validOf dm)) (weightOf (total (validOf dm))) (weightOf (total (validOf dm))) (flowOf (pathOf lg (validOf dm)) s d)
    (total (mulf dm (pathOf lg (validOf dm)))) (binaryOf (pathOf lg (validOf dm)))
    (heuristicOf (pathOf lg (validOf dm)) (distanceOf co (placeOf co d)))

/-- What the line leaves in the result. -/
theorem line_v65 : after line V (no_index (Proc.devRef .tc main_v65))
    = energyR (V (Proc.devRef .tc main_arg0)) (V (Proc.devRef .tc main_arg1)) (V (Proc.devRef .tc main_arg2)) (V (Proc.devRef .tc main_arg3)) (V (Proc.devRef .tc main_arg4)) := by
  simp only [line, after_append]
  rw [combining_v65]
  simp (disch := decide) only [counting_keeps, sigmoids_keeps, flows_keeps, costs_keeps, indices_keeps, places_keeps, distances_keeps, heuristics_keeps, counting_v2, counting_v3, counting_v6,
    counting_v8, sigmoids_v17, flows_v26, costs_v28, costs_v32, indices_v35, indices_v38, places_v39, distances_v44, heuristics_v54]
  rfl

/-- The line writes no argument. -/
theorem line_keeps {r : Ref sig .tc} (h : r ∈ [main_arg0, main_arg1, main_arg2, main_arg3, main_arg4]) :
    after line V (Proc.devRef .tc r) = V (Proc.devRef .tc r) := by
  have h : r = main_arg0 ∨ r = main_arg1 ∨ r = main_arg2 ∨ r = main_arg3 ∨ r = main_arg4 := by simpa using h
  simp only [line, after_append]
  obtain rfl | rfl | rfl | rfl | rfl := h <;>
    simp (disch := decide) only [counting_keeps, sigmoids_keeps, flows_keeps, costs_keeps, indices_keeps, places_keeps, distances_keeps, heuristics_keeps, combining_keeps]

/-- The reference runs to its end with its arguments unchanged, its result the energy of them, and every semaphore at zero. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after line (launchContents m c) (Proc.devRef .tc b) :=
  run_seq scopedRefs_eq scopedSems_eq defs main (fun _ => line) main_eq (fun _ => line_sub) m ρ

end Cert.ReferenceIdeal.Hopfield

end
-- ==== Proof.Frames.lean ====
/-
  The frames: the kernel over the words, the kernel over the extended reals and the reference each run to their end, leave their arguments as they were and every semaphore at zero.
-/
module

public import proofs.«01_k».proof.Defs
public import proofs.«01_k».proof.Proof.Gen.Kernel
public import proofs.«01_k».proof.Proof.Gen.KernelIdeal
public import proofs.«01_k».proof.Proof.Run
public import proofs.«01_k».proof.Proof.RefRun
public import Idealize.ShloMosaic.Lib.Quiescent

@[expose] public section

noncomputable section

namespace Cert.Proof

open Idealize.ShloMosaic Idealize.SL.Sem

/-- The frame of the kernel's text at any reading of its floats. -/
def Framed (F : FTy → Type) [FloatOps F] : Prop :=
  ∀ (m : (ℓ : Loc KernelIdeal.nD KernelIdeal.τ KernelIdeal.sig) → Buf (Elt F) ℓ) (g : Dev KernelIdeal.nD → PrngReg), True →
    θ_run (KernelIdeal.defs (F := F)) (onTc (τ := KernelIdeal.τ) (KernelIdeal.main (F := F))) ⟨m, fun _ => 0, g⟩
      (fun r => (∀ c : Dev KernelIdeal.nD,
        r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1)
        ∧ r.2.mem ((c.tc : Thread KernelIdeal.nD KernelIdeal.τ).loc KernelIdeal.main_arg2) = m ((c.tc : Thread KernelIdeal.nD KernelIdeal.τ).loc KernelIdeal.main_arg2)
        ∧ r.2.mem ((c.tc : Thread KernelIdeal.nD KernelIdeal.τ).loc KernelIdeal.main_arg3) = m ((c.tc : Thread KernelIdeal.nD KernelIdeal.τ).loc KernelIdeal.main_arg3)
        ∧ r.2.mem ((c.tc : Thread KernelIdeal.nD KernelIdeal.τ).loc KernelIdeal.main_arg4) = m ((c.tc : Thread KernelIdeal.nD KernelIdeal.τ).loc KernelIdeal.main_arg4))
        ∧ r.2.sem = fun _ => 0)

/-- The kernel's frame, from its run, at any reading of the floats. -/
theorem framed (F : FTy → Type) [FloatOps F] : Framed F := fun m g _ =>
  (θ_run _ _ _).2 (fun _ h => ⟨fun c => (h.1 c).2, h.2⟩) (KernelIdeal.Hopfield.kernel_run m g)

/-- The kernel over the words is the same text in another namespace. -/
theorem quiescent_Kernel_eq : Cert.quiescent_Kernel (hKernel := Cert.Kernel.Gen.facts) = Framed Bits := by
  sl_kernel_rfl

/-- The frame of the kernel over the words. -/
theorem frame_Kernel : Cert.quiescent_Kernel (hKernel := Cert.Kernel.Gen.facts) :=
  quiescent_Kernel_eq.mpr (framed Bits)

/-- The frame of the kernel over the extended reals. -/
theorem frame_KernelIdeal : Cert.quiescent_KernelIdeal (hKernelIdeal := Cert.KernelIdeal.Gen.facts) := framed Ideal

open Idealize.ShloMosaic.StableHlo in
/-- The frame of the reference. -/
theorem frame_ReferenceIdeal : Cert.quiescent_ReferenceIdeal (hReferenceIdeal := Cert.ReferenceIdeal.Gen.facts) := fun m g _ =>
  (θ_run _ _ _).2 (fun r h => ⟨fun c =>
    ⟨(h c _).trans (ReferenceIdeal.Hopfield.line_keeps (launchContents m c) (by simp)), (h c _).trans (ReferenceIdeal.Hopfield.line_keeps (launchContents m c) (by simp)),
      (h c _).trans (ReferenceIdeal.Hopfield.line_keeps (launchContents m c) (by simp)), (h c _).trans (ReferenceIdeal.Hopfield.line_keeps (launchContents m c) (by simp)),
      (h c _).trans (ReferenceIdeal.Hopfield.line_keeps (launchContents m c) (by simp))⟩, sem_eq_zero_of_no_sems (by decide) r.2⟩)
    (ReferenceIdeal.Hopfield.run (F := Ideal) m g)

end Cert.Proof

end
-- ==== Proof.Scalars.lean ====
/-
  The arithmetic of one entry, on the extended reals: the literals, the path variable as the kernel and as the
  reference compute it, and sums of path variables.
-/
module

public import Idealize.ShloMosaic.Lib.Pointwise
public import Idealize.ShloMosaic.Lib.Pipeline.ValueKit.Acc

@[expose] public section

noncomputable section

namespace Cert.Hopfield

open Idealize.ShloMosaic

/-- The word of one half. -/
theorem half_eq : Ideal.ofBits .f32 0x3F000000#32 = ((1 / 2 : ℝ) : EReal) := by
  simp [Ideal.ofBits, Ideal.ieee, -EReal.coe_mul]; norm_num

/-- The word of 8192. -/
theorem n_eq : Ideal.ofBits .f32 0x46000000#32 = ((8192 : ℝ) : EReal) := by
  simp [Ideal.ofBits, Ideal.ieee, -EReal.coe_mul]; norm_num

/-- The word of 8192 times 8192. -/
theorem nn_eq : Ideal.ofBits .f32 0x4C800000#32 = ((67108864 : ℝ) : EReal) := by
  simp [Ideal.ofBits, Ideal.ieee, -EReal.coe_mul]; norm_num

/-- The number of vertex pairs is the square of the number of vertices. -/
theorem pairs_eq : Ideal.ofBits .f32 0x46000000#32 * Ideal.ofBits .f32 0x46000000#32 = Ideal.ofBits .f32 0x4C800000#32 := by
  rw [n_eq, nn_eq, ← EReal.coe_mul]; norm_num

/-- The logistic function of a real number at twice the argument is half the hyperbolic tangent plus one half. -/
theorem real_logistic (r : ℝ) : 1 / (1 + Real.exp (-(r * 2))) = 1 / 2 * Real.tanh r + 1 / 2 := by
  have h1 := Real.exp_pos r
  have h2 := Real.exp_pos (-r)
  have h : Real.exp (-(r * 2)) = Real.exp (-r) * Real.exp (-r) := by rw [← Real.exp_add]; congr 1; ring
  have h3 : Real.exp r * Real.exp (-r) = 1 := by rw [← Real.exp_add]; simp
  rw [h, Real.tanh_eq_sinh_div_cosh, Real.sinh_eq, Real.cosh_eq]
  field_simp
  nlinarith [h3]

/-- The two forms of the logistic function agree on the extended reals. -/
theorem logistic_eq (l : EReal) :
    Ideal.div 1 (1 + Ideal.exp (-(Ideal.div l (Ideal.ofBits .f32 0x3F000000#32))))
      = Ideal.ofBits .f32 0x3F000000#32 * Ideal.tanh l + Ideal.ofBits .f32 0x3F000000#32 := by
  rw [half_eq, Ideal.div_coe (by norm_num)]
  have h2 : (1 / (1 / 2 : ℝ)) = 2 := by norm_num
  rw [h2]
  induction l with
  | bot =>
    rw [EReal.bot_mul_coe_of_pos (by norm_num), EReal.neg_bot, Ideal.exp_top, Ideal.tanh_bot]
    have : (1 : EReal) + ⊤ = ⊤ := rfl
    rw [this]
    simp only [Ideal.div]
    rw [if_neg (by simp), EReal.inv_top, mul_zero]
    have : (-1 : EReal) = ((-1 : ℝ) : EReal) := by rw [EReal.coe_neg, EReal.coe_one]
    rw [this, ← EReal.coe_mul, ← EReal.coe_add]; norm_num
  | top =>
    rw [EReal.top_mul_coe_of_pos (by norm_num), EReal.neg_top, Ideal.exp_bot, Ideal.tanh_top]
    rw [add_zero, mul_one, ← EReal.coe_add]
    have : (1 : EReal) = ((1 : ℝ) : EReal) := by norm_cast
    rw [this, Ideal.div_coe (by norm_num)]; rw [← EReal.coe_mul]; norm_num
  | coe r =>
    rw [← EReal.coe_mul, ← EReal.coe_neg, Ideal.exp_coe, Ideal.tanh_coe, ← EReal.coe_mul, ← EReal.coe_add]
    have : (1 : EReal) = ((1 : ℝ) : EReal) := by norm_cast
    have hp := Real.exp_pos (-(r * 2))
    rw [this, ← EReal.coe_add, Ideal.div_coe (by positivity), ← EReal.coe_mul, one_mul, real_logistic]

/-- One for an edge, zero otherwise. -/
def edge (d : EReal) : EReal := if d < Ideal.ofBits .f32 0x49742400#32 then 1 else 0

/-- The path variable of an entry. -/
def path (l d : EReal) : EReal :=
  if d < Ideal.ofBits .f32 0x49742400#32 then Ideal.ofBits .f32 0x3F000000#32 * Ideal.tanh l + Ideal.ofBits .f32 0x3F000000#32 else 0

/-- The reference's path variable. -/
theorem path_eq (l d : EReal) :
    Ideal.div 1 (1 + Ideal.exp (-(Ideal.div l (Ideal.ofBits .f32 0x3F000000#32)))) * edge d = path l d := by
  rw [logistic_eq]
  unfold edge path
  split_ifs <;> simp

/-- A path variable is a real number. -/
theorem path_real (l d : EReal) : ∃ r : ℝ, path l d = (r : EReal) := by
  unfold path
  split_ifs
  · rw [half_eq]
    induction l with
    | bot =>
      rw [Ideal.tanh_bot]
      have : (-1 : EReal) = ((-1 : ℝ) : EReal) := by rw [EReal.coe_neg, EReal.coe_one]
      rw [this, ← EReal.coe_mul, ← EReal.coe_add]; exact ⟨_, rfl⟩
    | top => rw [Ideal.tanh_top, mul_one, ← EReal.coe_add]; exact ⟨_, rfl⟩
    | coe r => rw [Ideal.tanh_coe, ← EReal.coe_mul, ← EReal.coe_add]; exact ⟨_, rfl⟩
  · exact ⟨0, by norm_cast⟩

/-- A sum of real numbers is the same on the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The sum of the variables less the sum of their squares is the sum of the products `x (1 - x)`. -/
theorem binary_eq {ι : Type*} (s : Finset ι) (x : ι → EReal) (hx : ∀ i, ∃ r : ℝ, x i = (r : EReal)) :
    (∑ i ∈ s, x i) - ∑ i ∈ s, x i * x i = ∑ i ∈ s, x i * (1 - x i) := by
  choose r hr using hx
  have h1 : (1 : EReal) = ((1 : ℝ) : EReal) := by norm_cast
  simp only [hr, h1, ← EReal.coe_mul, ← EReal.coe_sub, ← coe_sum]
  rw [← Finset.sum_sub_distrib]
  congr 1
  exact Finset.sum_congr rfl fun i _ => by ring

/-- A sum over 1024 numbers a block, in 128 chunks of eight. -/
theorem sum_chunks (f : ℕ → EReal) : ∑ p ∈ Finset.range 1024, f p = ∑ s ∈ Finset.range 8, ∑ k ∈ Finset.range 128, f (8 * k + s) := by
  rw [Finset.sum_comm, show 1024 = 128 * 8 from rfl, Finset.sum_range_mul_split]
  refine Finset.sum_congr rfl fun a _ => Finset.sum_congr rfl fun b _ => congrArg f (by ring)

/-- A sum over 8192 numbers, in eight blocks of 1024. -/
theorem sum_blocks (f : ℕ → EReal) : ∑ i ∈ Finset.range 8192, f i = ∑ b ∈ Finset.range 8, ∑ p ∈ Finset.range 1024, f (1024 * b + p) := by
  rw [show 8192 = 8 * 1024 from rfl, Finset.sum_range_mul_split]
  refine Finset.sum_congr rfl fun a _ => Finset.sum_congr rfl fun b _ => congrArg f (by ring)

/-- A sum over 512 lanes, in 128 groups of four lanes 128 apart. -/
theorem sum_groups (f : ℕ → EReal) : ∑ q ∈ Finset.range 512, f q
    = ∑ l ∈ Finset.range 128, (f l + f (128 + l) + f (256 + l) + f (384 + l)) := by
  rw [show 512 = 4 * 128 from rfl, Finset.sum_range_mul_split]
  simp only [Finset.sum_range_succ _ 3, Finset.sum_range_succ _ 2, Finset.sum_range_succ _ 1, Finset.sum_range_one, Finset.sum_add_distrib]
  simp

/-- A sum over 1024 columns, in two halves. -/
theorem sum_halves (f : ℕ → EReal) : ∑ q ∈ Finset.range 1024, f q
    = (∑ q ∈ Finset.range 512, f q) + ∑ q ∈ Finset.range 512, f (512 + q) := by
  rw [show 1024 = 512 + 512 from rfl, Finset.sum_range_add]

end Cert.Hopfield

end
-- ==== Proof.BlockValue.lean ====
/-
  One grid point of the first kernel, read entry by entry over the extended reals: what it adds to the sums of the
  columns' buffer, of the rows' buffer and of the four accumulators.
-/
module

public import proofs.«01_k».proof.Proof.Model
public import proofs.«01_k».proof.Proof.Scalars

@[expose] public section

set_option maxRecDepth 16384

noncomputable section

namespace Cert.KernelIdeal.Hopfield

open Idealize.ShloMosaic Cert.KernelIdeal Cert.Hopfield
open VecWindow (window put)

/-- The entries of the two matrices and the vertices' distances, over natural numbers. -/
structure Inputs where
  L : ℕ → ℕ → EReal
  D : ℕ → ℕ → EReal
  R : ℕ → EReal

namespace Inputs
variable (I : Inputs) (i j : ℕ)
/-- The path variable of an entry. -/
def x : EReal := path (I.L i j) (I.D i j)
/-- One for an edge. -/
def ne : EReal := edge (I.D i j)
/-- The path cost of an entry. -/
def pc : EReal := I.D i j * I.x i j
/-- The square of the path variable. -/
def x2 : EReal := I.x i j * I.x i j
/-- The heuristic term of an entry. -/
def he : EReal := I.x i j * max (I.R i - I.R j) 0
end Inputs

/-- The block's contents are the entries from row `i0` and column `j0` on. -/
structure Blk.At (B : Blk Ideal) (I : Inputs) (i0 j0 : ℕ) : Prop where
  lg : ∀ (p q : Fin 1024), B.lg (ix2 p q) = I.L (i0 + p.val) (j0 + q.val)
  dm : ∀ (p q : Fin 1024), B.dm (ix2 p q) = I.D (i0 + p.val) (j0 + q.val)
  dr : ∀ p : Fin 1024, B.dr (ix2 p 0) = I.R (i0 + p.val)
  dcol : ∀ q : Fin 1024, B.dcol (ix2 0 q) = I.R (j0 + q.val)

variable [Facts]
open Facts₀ Facts

/-- An entry of a chunk is the block's entry at the chunk's rows and the half's columns. -/
theorem part_apply (X : Vec Ideal S1024x1024 .f32) (h : Fin 2) (k : Fin 128) (s : Fin 8) (q : Fin 512) :
    Blk.part X h k (ix2 s q) = X (ix2 ⟨8 * k.val + s.val, by omega⟩ ⟨512 * h.val + q.val, by omega⟩) :=
  congrArg X (funext fun a => match a with
    | 0 => Fin.ext (by show 8 * k.val + 1 * s.val = 8 * k.val + s.val; omega)
    | 1 => Fin.ext (by show 512 * h.val + 1 * q.val = 512 * h.val + q.val; omega))

/-- An entry of a chunk's row distances is the block's. -/
theorem drow_apply (X : Vec Ideal S1024x1 .f32) (k : Fin 128) (s : Fin 8) :
    Blk.drow X k (ix2 s 0) = X (ix2 ⟨8 * k.val + s.val, by omega⟩ 0) :=
  congrArg X (funext fun a => match a with
    | 0 => Fin.ext (by show 8 * k.val + 1 * s.val = 8 * k.val + s.val; omega)
    | 1 => rfl)

/-- An entry of a half's column distances is the block's. -/
theorem dcolw_apply (X : Vec Ideal S1x1024 .f32) (h : Fin 2) (q : Fin 512) :
    window X ![0, 512 * h.val] S1x512.size (inb_col h) (ix2 0 q) = X (ix2 0 ⟨512 * h.val + q.val, by omega⟩) :=
  congrArg X (funext fun a => match a with
    | 0 => rfl
    | 1 => Fin.ext (by show 512 * h.val + 1 * q.val = 512 * h.val + q.val; omega))

/-- The column distances of a half don't depend on the row of the chunk. -/
theorem dc_apply (X : Vec Ideal S1x1024 .f32) (h : Fin 2) (s : Fin 8) (q : Fin 512) :
    Blk.dc X h (ix2 s q) = X (ix2 0 ⟨512 * h.val + q.val, by omega⟩) := by
  rw [← dcolw_apply X h q]
  unfold Blk.dc
  generalize window X ![0, 512 * h.val] S1x512.size (inb_col h) = w
  change S1x512.Idx → EReal at w
  pointwise

/-- An entry of the chunk's `x`: the sigmoid of twice the logit where the arc exists, else 0. -/
theorem xV_apply (lg dm : FVec Ideal S8x512 .f32) (j : S8x512.Idx) : xV lg dm j = path (lg j) (dm j) := by
  pointwise [xV, maskV, zero512]
  unfold path
  by_cases h : dm j < Ideal.ofBits .f32 0x49742400#32 <;> simp [h, Ideal.cmp, Scalar.select]

/-- An entry of the chunk's edge mask: 1 where the arc exists, else 0. -/
theorem neV_apply (dm : FVec Ideal S8x512 .f32) (j : S8x512.Idx) : neV dm j = edge (dm j) := by
  pointwise [neV, maskV, zero512]
  unfold edge
  by_cases h : dm j < Ideal.ofBits .f32 0x49742400#32 <;> simp [h, Ideal.cmp, Scalar.select]

/-- An entry of the chunk's heuristic: `x` times the positive part of the difference of the two distances. -/
theorem hV_apply (dc x : FVec Ideal S8x512 .f32) (dr : FVec Ideal S8x1 .f32) (s : Fin 8) (q : Fin 512) :
    hV dc x dr (ix2 s q) = x (ix2 s q) * max (dr (ix2 s 0) - dc (ix2 s q)) 0 := by
  pointwise [hV, zero512]

section
variable {B : Blk Ideal} {I : Inputs} {i0 j0 : ℕ} (hB : B.At I i0 j0) (h : Fin 2) (k : Fin 128) (s : Fin 8) (q : Fin 512)
include hB

/-- An entry of the chunk's `x` is the matrix's. -/
theorem x_apply : xV (Blk.part B.lg h k) (Blk.part B.dm h k) (ix2 s q) = I.x (i0 + (8 * k.val + s.val)) (j0 + (512 * h.val + q.val)) := by
  rw [xV_apply, part_apply, part_apply, hB.lg, hB.dm]; rfl

/-- An entry of the chunk's edge mask is the matrix's. -/
theorem ne_apply : neV (Blk.part B.dm h k) (ix2 s q) = I.ne (i0 + (8 * k.val + s.val)) (j0 + (512 * h.val + q.val)) := by
  rw [neV_apply, part_apply, hB.dm]; rfl

/-- An entry of the chunk's path cost is the matrix's. -/
theorem pc_apply : mulf (Blk.part B.dm h k) (xV (Blk.part B.lg h k) (Blk.part B.dm h k)) (ix2 s q)
    = I.pc (i0 + (8 * k.val + s.val)) (j0 + (512 * h.val + q.val)) := by
  show Blk.part B.dm h k (ix2 s q) * xV (Blk.part B.lg h k) (Blk.part B.dm h k) (ix2 s q) = _
  rw [x_apply hB, part_apply, hB.dm]; rfl

/-- An entry of the chunk's `x²` is the matrix's. -/
theorem x2_apply : mulf (xV (Blk.part B.lg h k) (Blk.part B.dm h k)) (xV (Blk.part B.lg h k) (Blk.part B.dm h k)) (ix2 s q)
    = I.x2 (i0 + (8 * k.val + s.val)) (j0 + (512 * h.val + q.val)) := by
  show xV (Blk.part B.lg h k) (Blk.part B.dm h k) (ix2 s q) * xV (Blk.part B.lg h k) (Blk.part B.dm h k) (ix2 s q) = _
  rw [x_apply hB]; rfl

/-- An entry of the chunk's heuristic is the matrix's. -/
theorem he_apply : hV (Blk.dc B.dcol h) (xV (Blk.part B.lg h k) (Blk.part B.dm h k)) (Blk.drow B.dr k) (ix2 s q)
    = I.he (i0 + (8 * k.val + s.val)) (j0 + (512 * h.val + q.val)) := by
  rw [hV_apply, x_apply hB, drow_apply, dc_apply, hB.dr, hB.dcol]; rfl

end

/-- A running sum read at a position. -/
theorem foldl_read {β : Type} (next : β → Fin 128 → β) (read : β → EReal) (f : Fin 128 → EReal)
    (hn : ∀ c k, read (next c k) = read c + f k) (c : β) (l : List (Fin 128)) :
    read (l.foldl next c) = read c + (l.map f).sum := by
  induction l generalizing c with
  | nil => simp
  | cons k l ih => rw [List.foldl_cons, ih, hn, List.map_cons, List.sum_cons, add_assoc]

/-- The carried sums start at 0. -/
theorem zero512_apply (j : S8x512.Idx) : (zero512 : FVec Ideal S8x512 .f32) j = 0 := by
  pointwise [zero512]

/-- A half's sum at a position, from its chunks. -/
theorem carry_read {B : Blk Ideal} (h : Fin 2) (get : Carry Ideal → FVec Ideal S8x512 .f32) (j : S8x512.Idx) (f : ℕ → EReal)
    (h0 : get Carry.zero = zero512) (hn : ∀ c k, get (B.next h c k) j = get c j + f k.val) :
    get (B.carry h) j = ∑ k ∈ Finset.range 128, f k := by
  unfold Blk.carry
  rw [foldl_read (B.next h) (fun c => get c j) (fun k => f k.val) hn, h0, zero512_apply, zero_add, ← Fin.sum_univ_def,
    Fin.sum_univ_eq_sum_range f 128]

section
variable {B : Blk Ideal} {I : Inputs} {i0 j0 : ℕ} (hB : B.At I i0 j0) (h : Fin 2) (s : Fin 8) (q : Fin 512)
include hB

/-- After a half block, the carried sum of `x` is its sum over the chunks. -/
theorem carry_ax : (B.carry h).ax (ix2 s q) = ∑ k ∈ Finset.range 128, I.x (i0 + (8 * k + s.val)) (j0 + (512 * h.val + q.val)) :=
  carry_read h Carry.ax (ix2 s q) (fun k => I.x (i0 + (8 * k + s.val)) (j0 + (512 * h.val + q.val))) rfl fun c k => congrArg (c.ax (ix2 s q) + ·) (x_apply hB h k s q)
/-- After a half block, the carried number of edges is its sum over the chunks. -/
theorem carry_ane : (B.carry h).ane (ix2 s q) = ∑ k ∈ Finset.range 128, I.ne (i0 + (8 * k + s.val)) (j0 + (512 * h.val + q.val)) :=
  carry_read h Carry.ane (ix2 s q) (fun k => I.ne (i0 + (8 * k + s.val)) (j0 + (512 * h.val + q.val))) rfl fun c k => congrArg (c.ane (ix2 s q) + ·) (ne_apply hB h k s q)
/-- After a half block, the carried path cost is its sum over the chunks. -/
theorem carry_apc : (B.carry h).apc (ix2 s q) = ∑ k ∈ Finset.range 128, I.pc (i0 + (8 * k + s.val)) (j0 + (512 * h.val + q.val)) :=
  carry_read h Carry.apc (ix2 s q) (fun k => I.pc (i0 + (8 * k + s.val)) (j0 + (512 * h.val + q.val))) rfl fun c k => congrArg (c.apc (ix2 s q) + ·) (pc_apply hB h k s q)
/-- After a half block, the carried sum of `x²` is its sum over the chunks. -/
theorem carry_ax2 : (B.carry h).ax2 (ix2 s q) = ∑ k ∈ Finset.range 128, I.x2 (i0 + (8 * k + s.val)) (j0 + (512 * h.val + q.val)) :=
  carry_read h Carry.ax2 (ix2 s q) (fun k => I.x2 (i0 + (8 * k + s.val)) (j0 + (512 * h.val + q.val))) rfl fun c k => congrArg (c.ax2 (ix2 s q) + ·) (x2_apply hB h k s q)
/-- After a half block, the carried heuristic is its sum over the chunks. -/
theorem carry_ah : (B.carry h).ah (ix2 s q) = ∑ k ∈ Finset.range 128, I.he (i0 + (8 * k + s.val)) (j0 + (512 * h.val + q.val)) :=
  carry_read h Carry.ah (ix2 s q) (fun k => I.he (i0 + (8 * k + s.val)) (j0 + (512 * h.val + q.val))) rfl fun c k => congrArg (c.ah (ix2 s q) + ·) (he_apply hB h k s q)

end

/-- The four lane groups at a position. -/
theorem fold4_apply (v : FVec Ideal S8x512 .f32) (s : Fin 8) (l : Fin 128) :
    fold4 v (ix2 s l) = v (ix2 s ⟨l.val, by omega⟩) + v (ix2 s ⟨128 + l.val, by omega⟩) + v (ix2 s ⟨256 + l.val, by omega⟩)
      + v (ix2 s ⟨384 + l.val, by omega⟩) := by
  pointwise [fold4]

/-- The sum of a folded vector's row is the sum of the vector's row. -/
theorem fold4_sum (v : FVec Ideal S8x512 .f32) (s : Fin 8) (f : ℕ → EReal) (hf : ∀ q : Fin 512, v (ix2 s q) = f q.val) :
    ∑ l : Fin 128, fold4 v (ix2 s l) = ∑ q ∈ Finset.range 512, f q := by
  rw [sum_groups, ← Fin.sum_univ_eq_sum_range (fun l => f l + f (128 + l) + f (256 + l) + f (384 + l)) 128]
  refine Finset.sum_congr rfl fun l _ => ?_
  rw [fold4_apply, hf, hf, hf, hf]

/-- The sum of a column of the columns' buffer. -/
def colT (v : Vec Ideal S8x8192 .f32) (J : Fin 8192) : EReal := ∑ s : Fin 8, v (ix2 s J)
/-- The sum of a row of the rows' buffer. -/
def rowT (v : Vec Ideal S1024x128 .f32) (p : Fin 1024) : EReal := ∑ l : Fin 128, v (ix2 p l)
/-- The sum of an accumulator. -/
def tot (v : Vec Ideal S8x128 .f32) : EReal := ∑ s : Fin 8, ∑ l : Fin 128, v (ix2 s l)

/-- Adding a half's sum into an accumulator adds the sum over the half's entries. -/
theorem tot_bumped (a : Vec Ideal S8x128 .f32) (v : FVec Ideal S8x512 .f32) (g : ℕ → ℕ → EReal) (i0 j0 : ℕ)
    (hv : ∀ (s : Fin 8) (q : Fin 512), v (ix2 s q) = ∑ k ∈ Finset.range 128, g (i0 + (8 * k + s.val)) (j0 + q.val)) :
    tot (bumped a v) = tot a + ∑ q ∈ Finset.range 512, ∑ p ∈ Finset.range 1024, g (i0 + p) (j0 + q) := by
  have e : ∀ (s : Fin 8) (l : Fin 128), bumped a v (ix2 s l) = a (ix2 s l) + fold4 v (ix2 s l) := fun s l => by
    unfold bumped
    generalize fold4 v = w
    change S8x128.Idx → EReal at a
    pointwise
  unfold tot
  simp only [e, Finset.sum_add_distrib]
  congr 1
  simp only [fold4_sum v _ (fun q => ∑ k ∈ Finset.range 128, g (i0 + (8 * k + _)) (j0 + q)) (hv _)]
  rw [Finset.sum_comm' (t' := Finset.range 512) (s' := fun _ => Finset.univ) (by simp)]
  refine Finset.sum_congr rfl fun q _ => ?_
  rw [sum_chunks (fun p => g (i0 + p) (j0 + q)), ← Fin.sum_univ_eq_sum_range (fun s => ∑ k ∈ Finset.range 128, g (i0 + (8 * k + s)) (j0 + q)) 8]

/-- One chunk's effect on the rows' buffer. -/
theorem nextRows_apply {B : Blk Ideal} (h : Fin 2) (r : Vec Ideal S1024x128 .f32) (k : Fin 128) (p : Fin 1024) (l : Fin 128) :
    B.nextRows h r k (ix2 p l) = if p.val / 8 = k.val then
      r (ix2 p l) + fold4 (xV (Blk.part B.lg h k) (Blk.part B.dm h k)) (ix2 ⟨p.val % 8, by omega⟩ l) else r (ix2 p l) := by
  unfold Blk.nextRows
  generalize fold4 (xV (Blk.part B.lg h k) (Blk.part B.dm h k)) = w
  have hk := k.isLt
  by_cases hp : p.val / 8 = k.val
  · have hin : ∀ a, (![8 * k.val, 0] : Fin 2 → ℕ) a ≤ (ix2 p l a).val ∧ (ix2 p l a).val < (![8 * k.val, 0] : Fin 2 → ℕ) a + S8x128.size a := fun a =>
      match a with
      | 0 => ⟨by show 8 * k.val ≤ p.val; omega, by show p.val < 8 * k.val + 8; omega⟩
      | 1 => ⟨Nat.zero_le _, by show l.val < 0 + 128; omega⟩
    rw [if_pos hp]
    unfold put
    rw [dif_pos hin]
    have e1 : (Rect.unitLocal (s := S1024x128) (off := ![8 * k.val, 0]) (size := S8x128.size) (ix2 p l) hin : S8x128.Idx) = ix2 (⟨p.val % 8, by omega⟩ : Fin 8) l :=
      funext fun a => match a with
        | 0 => Fin.ext (by show p.val - 8 * k.val = p.val % 8; omega)
        | 1 => Fin.ext (by show l.val - 0 = l.val; omega)
    have e2 : ∀ j : S8x128.Idx, shapeCast S8x128 (addf (window r ![8 * k.val, 0] S8x128.size (inb_acc k)) w) shapeCasts_S8x128_S8x128 j
        = window r ![8 * k.val, 0] S8x128.size (inb_acc k) j + w j := fun j => by
      generalize window r ![8 * k.val, 0] S8x128.size (inb_acc k) = u
      change S8x128.Idx → EReal at u
      pointwise
    refine (congrArg (shapeCast S8x128 (addf (window r ![8 * k.val, 0] S8x128.size (inb_acc k)) w) shapeCasts_S8x128_S8x128) e1).trans ?_
    rw [e2]
    refine congrArg (· + w (ix2 ⟨p.val % 8, by omega⟩ l)) ?_
    exact congrArg r (funext fun a => match a with
      | 0 => Fin.ext (by show 8 * k.val + 1 * (p.val % 8) = p.val; omega)
      | 1 => Fin.ext (by show 0 + 1 * l.val = l.val; omega))
  · have hout : ¬ ∀ a, (![8 * k.val, 0] : Fin 2 → ℕ) a ≤ (ix2 p l a).val ∧ (ix2 p l a).val < (![8 * k.val, 0] : Fin 2 → ℕ) a + S8x128.size a := fun hall => by
      have h1 : 8 * k.val ≤ p.val := (hall 0).1
      have h2 : p.val < 8 * k.val + 8 := (hall 0).2
      omega
    rw [if_neg hp]
    unfold put
    rw [dif_neg hout]

/-- A half's effect on a row's sum. -/
theorem rows_half {B : Blk Ideal} {I : Inputs} {i0 j0 : ℕ} (hB : B.At I i0 j0) (h : Fin 2) (r : Vec Ideal S1024x128 .f32) (p : Fin 1024) :
    rowT ((List.finRange 128).foldl (B.nextRows h) r) p = rowT r p + ∑ q ∈ Finset.range 512, I.x (i0 + p.val) (j0 + (512 * h.val + q)) := by
  have e : ∀ k : Fin 128, p.val / 8 = k.val → ∑ l : Fin 128, fold4 (xV (Blk.part B.lg h k) (Blk.part B.dm h k)) (ix2 ⟨p.val % 8, by omega⟩ l)
      = ∑ q ∈ Finset.range 512, I.x (i0 + p.val) (j0 + (512 * h.val + q)) := fun k hk =>
    fold4_sum _ _ _ fun q => by
      rw [x_apply hB]
      congr 2
      show 8 * k.val + p.val % 8 = p.val
      omega
  rw [foldl_read (B.nextRows h) (fun r => rowT r p)
    (fun k => if p.val / 8 = k.val then ∑ q ∈ Finset.range 512, I.x (i0 + p.val) (j0 + (512 * h.val + q)) else 0)
    (fun c k => by
      show rowT _ _ = rowT _ _ + _
      unfold rowT
      simp only [nextRows_apply]
      split_ifs with hk
      · rw [Finset.sum_add_distrib, e k hk]
      · rw [add_zero]), ← Fin.sum_univ_def]
  congr 1
  have hp : p.val / 8 < 128 := by omega
  rw [Finset.sum_eq_single (⟨p.val / 8, hp⟩ : Fin 128)]
  · rw [if_pos rfl]
  · intro b _ hb
    rw [if_neg]
    intro hh
    exact hb (Fin.ext hh.symm)
  · intro hh
    exact absurd (Finset.mem_univ _) hh

/-- A half's effect on a column's sum. -/
theorem cols_half {B : Blk Ideal} {I : Inputs} {i0 j0 : ℕ} (hB : B.At I i0 j0) (i : grid0.Coords) (h : Fin 2) (S : Acc Ideal)
    (ho : k0_off1 i (BitVec.ofNat 32 (512 * h.val)) = ![0, j0 + 512 * h.val]) (J : Fin 8192) :
    colT (S.half i B h).cols J = colT S.cols J
      + if j0 + 512 * h.val ≤ J.val ∧ J.val < j0 + 512 * h.val + 512 then ∑ p ∈ Finset.range 1024, I.x (i0 + p) J.val else 0 := by
  have key : ∀ s : Fin 8, (S.half i B h).cols (ix2 s J) = S.cols (ix2 s J)
      + if j0 + 512 * h.val ≤ J.val ∧ J.val < j0 + 512 * h.val + 512 then ∑ k ∈ Finset.range 128, I.x (i0 + (8 * k + s.val)) J.val else 0 := fun s => by
    show put S.cols (k0_off1 i (BitVec.ofNat 32 (512 * h.val))) S8x512.size _ (ix2 s J) = _
    by_cases hJ : j0 + 512 * h.val ≤ J.val ∧ J.val < j0 + 512 * h.val + 512
    · have hin : ∀ a, (k0_off1 i (BitVec.ofNat 32 (512 * h.val)) : Fin 2 → ℕ) a ≤ (ix2 s J a).val
          ∧ (ix2 s J a).val < (k0_off1 i (BitVec.ofNat 32 (512 * h.val)) : Fin 2 → ℕ) a + S8x512.size a := by
        rw [ho]
        exact fun a => match a with
          | 0 => ⟨Nat.zero_le _, by show s.val < 0 + 8; omega⟩
          | 1 => hJ
      rw [if_pos hJ]
      unfold put
      rw [dif_pos hin]
      have e1 : (Rect.unitLocal (s := S8x8192) (off := k0_off1 i (BitVec.ofNat 32 (512 * h.val))) (size := S8x512.size) (ix2 s J) hin : S8x512.Idx)
          = ix2 s (⟨J.val - (j0 + 512 * h.val), by omega⟩ : Fin 512) :=
        funext fun a => match a with
          | 0 => Fin.ext (by
              show s.val - k0_off1 i (BitVec.ofNat 32 (512 * h.val)) 0 = s.val
              rw [ho]; rfl)
          | 1 => Fin.ext (by
              show J.val - k0_off1 i (BitVec.ofNat 32 (512 * h.val)) 1 = J.val - (j0 + 512 * h.val)
              rw [ho]; rfl)
      have e2 : ∀ j : S8x512.Idx, shapeCast S8x512 (addf (window S.cols (k0_off1 i (BitVec.ofNat 32 (512 * h.val))) S8x512.size (k0_off1_inb i h)) (B.carry h).ax) shapeCasts_S8x512_S8x512 j
          = window S.cols (k0_off1 i (BitVec.ofNat 32 (512 * h.val))) S8x512.size (k0_off1_inb i h) j + (B.carry h).ax j := fun j => by
        generalize (B.carry h).ax = w
        generalize window S.cols (k0_off1 i (BitVec.ofNat 32 (512 * h.val))) S8x512.size (k0_off1_inb i h) = u
        change S8x512.Idx → EReal at u
        pointwise
      refine (congrArg (shapeCast S8x512 (addf (window S.cols (k0_off1 i (BitVec.ofNat 32 (512 * h.val))) S8x512.size (k0_off1_inb i h)) (B.carry h).ax) shapeCasts_S8x512_S8x512) e1).trans ?_
      rw [e2, carry_ax hB]
      refine congrArg₂ (· + ·) ?_ ?_
      · exact congrArg S.cols (funext fun a => match a with
          | 0 => Fin.ext (by
              show k0_off1 i (BitVec.ofNat 32 (512 * h.val)) 0 + 1 * s.val = s.val
              rw [ho]; show 0 + 1 * s.val = s.val; omega)
          | 1 => Fin.ext (by
              show k0_off1 i (BitVec.ofNat 32 (512 * h.val)) 1 + 1 * (J.val - (j0 + 512 * h.val)) = J.val
              rw [ho]; show j0 + 512 * h.val + 1 * (J.val - (j0 + 512 * h.val)) = J.val; omega))
      · refine Finset.sum_congr rfl fun k _ => congrArg (I.x (i0 + (8 * k + s.val))) ?_
        show j0 + (512 * h.val + (J.val - (j0 + 512 * h.val))) = J.val
        omega
    · have hout : ¬ ∀ a, (k0_off1 i (BitVec.ofNat 32 (512 * h.val)) : Fin 2 → ℕ) a ≤ (ix2 s J a).val
          ∧ (ix2 s J a).val < (k0_off1 i (BitVec.ofNat 32 (512 * h.val)) : Fin 2 → ℕ) a + S8x512.size a := by
        rw [ho]
        exact fun hall => hJ (hall 1)
      rw [if_neg hJ, add_zero]
      unfold put
      rw [dif_neg hout]
  unfold colT
  simp only [key]
  rw [Finset.sum_add_distrib]
  congr 1
  split_ifs with hJ
  · rw [sum_chunks (fun p => I.x (i0 + p) J.val), ← Fin.sum_univ_eq_sum_range (fun s => ∑ k ∈ Finset.range 128, I.x (i0 + (8 * k + s)) J.val) 8]
  · exact Finset.sum_const_zero

section
variable {B : Blk Ideal} {I : Inputs} {i0 j0 : ℕ} (hB : B.At I i0 j0) (i : grid0.Coords) (S : Acc Ideal)
    (ho : ∀ h : Fin 2, k0_off1 i (BitVec.ofNat 32 (512 * h.val)) = ![0, j0 + 512 * h.val])
include hB

/-- Both halves' effect on a row's sum. -/
theorem rows_point (p : Fin 1024) : rowT (S.point i B).rows p = rowT (S.reset i).rows p + ∑ q ∈ Finset.range 1024, I.x (i0 + p.val) (j0 + q) := by
  show rowT ((List.finRange 128).foldl (B.nextRows 1) ((List.finRange 128).foldl (B.nextRows 0) (S.reset i).rows)) p = _
  rw [rows_half hB, rows_half hB, sum_halves, add_assoc]
  simp

omit hB in
/-- An accumulator that each half block raises by its sum is raised by the block's sum at a grid point. -/
theorem tot_point (get : Acc Ideal → Vec Ideal S8x128 .f32) (g : ℕ → ℕ → EReal)
    (hh : ∀ (h : Fin 2) (S : Acc Ideal), tot (get (S.half i B h)) = tot (get S) + ∑ q ∈ Finset.range 512, ∑ p ∈ Finset.range 1024, g (i0 + p) (j0 + 512 * h.val + q)) :
    tot (get (S.point i B)) = tot (get (S.reset i)) + ∑ q ∈ Finset.range 1024, ∑ p ∈ Finset.range 1024, g (i0 + p) (j0 + q) := by
  show tot (get (((S.reset i).half i B 0).half i B 1)) = _
  rw [hh, hh, sum_halves, add_assoc]
  simp [add_assoc]

/-- A grid point raises the edge count's total by the block's sum. -/
theorem ne_point : tot (S.point i B).ne = tot (S.reset i).ne + ∑ q ∈ Finset.range 1024, ∑ p ∈ Finset.range 1024, I.ne (i0 + p) (j0 + q) :=
  tot_point i S Acc.ne I.ne fun h S => tot_bumped S.ne _ I.ne i0 (j0 + 512 * h.val) fun s q => by rw [carry_ane hB, add_assoc]
/-- A grid point raises the path cost's total by the block's sum. -/
theorem pc_point : tot (S.point i B).pc = tot (S.reset i).pc + ∑ q ∈ Finset.range 1024, ∑ p ∈ Finset.range 1024, I.pc (i0 + p) (j0 + q) :=
  tot_point i S Acc.pc I.pc fun h S => tot_bumped S.pc _ I.pc i0 (j0 + 512 * h.val) fun s q => by rw [carry_apc hB, add_assoc]
/-- A grid point raises the total of `x²` by the block's sum. -/
theorem x2_point : tot (S.point i B).x2 = tot (S.reset i).x2 + ∑ q ∈ Finset.range 1024, ∑ p ∈ Finset.range 1024, I.x2 (i0 + p) (j0 + q) :=
  tot_point i S Acc.x2 I.x2 fun h S => tot_bumped S.x2 _ I.x2 i0 (j0 + 512 * h.val) fun s q => by rw [carry_ax2 hB, add_assoc]
/-- A grid point raises the heuristic's total by the block's sum. -/
theorem he_point : tot (S.point i B).he = tot (S.reset i).he + ∑ q ∈ Finset.range 1024, ∑ p ∈ Finset.range 1024, I.he (i0 + p) (j0 + q) :=
  tot_point i S Acc.he I.he fun h S => tot_bumped S.he _ I.he i0 (j0 + 512 * h.val) fun s q => by rw [carry_ah hB, add_assoc]

include ho in
/-- Both halves' effect on a column's sum. -/
theorem cols_point (J : Fin 8192) : colT (S.point i B).cols J = colT (S.reset i).cols J
    + if j0 ≤ J.val ∧ J.val < j0 + 1024 then ∑ p ∈ Finset.range 1024, I.x (i0 + p) J.val else 0 := by
  show colT (((S.reset i).half i B 0).half i B 1).cols J = _
  rw [cols_half hB i 1 _ (ho 1), cols_half hB i 0 _ (ho 0), add_assoc]
  congr 1
  show (if j0 + 512 * 0 ≤ J.val ∧ J.val < j0 + 512 * 0 + 512 then _ else _) + (if j0 + 512 * 1 ≤ J.val ∧ J.val < j0 + 512 * 1 + 512 then _ else _) = _
  by_cases h0 : j0 ≤ J.val ∧ J.val < j0 + 512
  · rw [if_pos (by omega), if_neg (by omega), if_pos (by omega), add_zero]
  · by_cases h1 : j0 + 512 ≤ J.val ∧ J.val < j0 + 1024
    · rw [if_neg (by omega), if_pos (by omega), if_pos (by omega), zero_add]
    · rw [if_neg (by omega), if_neg (by omega), if_neg (by omega), zero_add]

end

end Cert.KernelIdeal.Hopfield

end
-- ==== Proof.StateValue.lean ====
/-
  The first kernel's scratch buffers after each grid point, as sums over the entries visited so far.
-/
module

public import proofs.«01_k».proof.Proof.Pass1
public import proofs.«01_k».proof.Proof.BlockValue

@[expose] public section

set_option maxRecDepth 16384

noncomputable section

namespace Cert.KernelIdeal.Hopfield

open Idealize.ShloMosaic Cert.KernelIdeal Cert.KernelIdeal.Gen Cert.Hopfield

/-- Where a half block's columns start in the columns' buffer. -/
theorem off1_eq : ∀ (t : Fin grid0.N) (h : Fin 2),
    k0_off1 (grid0.coords t) (BitVec.ofNat 32 (512 * h.val)) = ![0, 1024 * (t.val % 8) + 512 * h.val] := by decide +kernel

/-- The total of a cleared column is 0. -/
theorem colT_zero (v : Vec Ideal S8x8192 .f32) (hv : ∀ j, v j = 0) (J : Fin 8192) : colT v J = 0 := by
  unfold colT; simp only [hv]; exact Finset.sum_const_zero
/-- The total of a cleared row is 0. -/
theorem rowT_zero (v : Vec Ideal S1024x128 .f32) (hv : ∀ j, v j = 0) (p : Fin 1024) : rowT v p = 0 := by
  unfold rowT; simp only [hv]; exact Finset.sum_const_zero
/-- The total of a cleared accumulator is 0. -/
theorem tot_zero (v : Vec Ideal S8x128 .f32) (hv : ∀ j, v j = 0) : tot v = 0 := by
  unfold tot; simp only [hv, Finset.sum_const_zero]

/-- The zero word is the number 0. -/
theorem word_zero : (Scalar.ofBits .f32 0x00000000#32 : Ideal .f32) = 0 := Ideal.ofBits_zero_f32
/-- A cleared accumulator is 0 in every place. -/
theorem zeros8_apply (j : S8x128.Idx) : (zeros8 : Vec Ideal S8x128 .f32) j = 0 := word_zero

/-- The entries are the blocks' contents at every grid point. -/
def Filled (V : Entry Ideal) (c : Dev nD) (I : Inputs) : Prop :=
  ∀ t : Fin cfg0.N, (blkAt V c t).At I (1024 * (t.val / 8)) (1024 * (t.val % 8))

variable {V : Entry Ideal} {c : Dev nD} {I : Inputs} (hI : Filled V c I)
include hI

/-- After `n` grid points, a column's total is the sum of `x` over the blocks visited in that column. -/
theorem cols_state (J : Fin 8192) (n : ℕ) (hn : n ≤ 64) : colT (stF V c n).cols J
    = ∑ t ∈ Finset.range n, if t % 8 = J.val / 1024 then ∑ p ∈ Finset.range 1024, I.x (1024 * (t / 8) + p) J.val else 0 := by
  induction n with
  | zero => rw [Finset.sum_range_zero]; exact colT_zero _ (fun _ => word_zero) J
  | succ n ih =>
    have hlt : n < cfg0.N := by show n < 64; omega
    rw [stF_succ V c ⟨n, hlt⟩, cols_point (hI ⟨n, hlt⟩) _ _ (off1_eq ⟨n, hlt⟩), Finset.sum_range_succ _ n, ← ih (by omega)]
    congr 1
    · unfold Acc.reset
      by_cases h0 : n = 0
      · subst h0
        simp only [if_pos ((condA_zero ⟨0, hlt⟩).mpr rfl), if_pos ((condB_zero ⟨0, hlt⟩).mpr rfl)]
        exact (colT_zero _ (fun _ => word_zero) J).trans (colT_zero _ (fun _ => word_zero) J).symm
      · rw [if_neg (c := condA (grid0.coords ⟨n, hlt⟩) = 1#1) (fun h => h0 ((condA_zero ⟨n, hlt⟩).mp h))]
        dsimp only
        split_ifs <;> rfl
    · have : (1024 * (n % 8) ≤ J.val ∧ J.val < 1024 * (n % 8) + 1024) ↔ n % 8 = J.val / 1024 := by omega
      simp only [this]

/-- After grid point `n`, a row's total is the sum of `x` over the blocks visited in the present row of blocks.
    -/
theorem rows_state (p : Fin 1024) (n : ℕ) (hn : n < 64) : rowT (stF V c (n + 1)).rows p
    = ∑ b ∈ Finset.range (n % 8 + 1), ∑ q ∈ Finset.range 1024, I.x (1024 * (n / 8) + p.val) (1024 * b + q) := by
  induction n with
  | zero =>
    have hlt : 0 < cfg0.N := by show 0 < 64; omega
    rw [stF_succ V c ⟨0, hlt⟩, rows_point (hI ⟨0, hlt⟩)]
    have : rowT ((stF V c 0).reset (grid0.coords ⟨0, hlt⟩)).rows p = 0 := by
      unfold Acc.reset
      simp only [if_pos ((condB_zero ⟨0, hlt⟩).mpr rfl)]
      exact rowT_zero _ (fun _ => word_zero) p
    rw [this, zero_add]
    simp
  | succ n ih =>
    have hlt : n + 1 < cfg0.N := by show n + 1 < 64; omega
    rw [stF_succ V c ⟨n + 1, hlt⟩, rows_point (hI ⟨n + 1, hlt⟩), Finset.sum_range_succ _ ((n + 1) % 8)]
    congr 1
    have hA : ¬ condA (grid0.coords ⟨n + 1, hlt⟩) = 1#1 := fun h => by
      have := (condA_zero ⟨n + 1, hlt⟩).mp h
      exact absurd this (Nat.succ_ne_zero n)
    unfold Acc.reset
    rw [if_neg hA]
    dsimp only
    by_cases h8 : (n + 1) % 8 = 0
    · rw [if_pos ((condB_zero ⟨n + 1, hlt⟩).mpr h8), h8, Finset.sum_range_zero]
      exact rowT_zero _ (fun _ => word_zero) p
    · rw [if_neg (fun h => h8 ((condB_zero ⟨n + 1, hlt⟩).mp h)), ih (by omega)]
      rw [show (n + 1) % 8 = n % 8 + 1 by omega, show (n + 1) / 8 = n / 8 by omega]

/-- An accumulator that starts at zero and that each grid point raises by its block's sum holds the sum over the
    blocks visited. -/
theorem tot_state (get : Acc Ideal → Vec Ideal S8x128 .f32) (g : ℕ → ℕ → EReal)
    (h0 : ∀ j, get blank j = 0) (hA : ∀ S : Acc Ideal, get S.initAll = zeros8) (hR : ∀ S : Acc Ideal, get S.initRows = get S)
    (hp : ∀ {B : Blk Ideal} {i0 j0 : ℕ}, B.At I i0 j0 → ∀ (i : grid0.Coords) (S : Acc Ideal),
      tot (get (S.point i B)) = tot (get (S.reset i)) + ∑ q ∈ Finset.range 1024, ∑ p ∈ Finset.range 1024, g (i0 + p) (j0 + q))
    (n : ℕ) (hn : n ≤ 64) : tot (get (stF V c n))
    = ∑ t ∈ Finset.range n, ∑ q ∈ Finset.range 1024, ∑ p ∈ Finset.range 1024, g (1024 * (t / 8) + p) (1024 * (t % 8) + q) := by
  induction n with
  | zero => rw [Finset.sum_range_zero]; exact tot_zero _ h0
  | succ n ih =>
    have hlt : n < cfg0.N := by show n < 64; omega
    rw [stF_succ V c ⟨n, hlt⟩, hp (hI ⟨n, hlt⟩), Finset.sum_range_succ _ n, ← ih (by omega)]
    congr 1
    unfold Acc.reset
    by_cases hz : n = 0
    · subst hz
      simp only [if_pos ((condA_zero ⟨0, hlt⟩).mpr rfl), if_pos ((condB_zero ⟨0, hlt⟩).mpr rfl)]
      rw [hR, hA, tot_zero _ zeros8_apply]
      exact (tot_zero _ h0).symm
    · rw [if_neg (c := condA (grid0.coords ⟨n, hlt⟩) = 1#1) (fun h => hz ((condA_zero ⟨n, hlt⟩).mp h))]
      dsimp only
      split_ifs
      · rw [hR]
      · rfl

omit hI in
/-- The blocks' sums together are the sum over the matrix. -/
theorem sum_all (g : ℕ → ℕ → EReal) :
    ∑ t ∈ Finset.range 64, ∑ q ∈ Finset.range 1024, ∑ p ∈ Finset.range 1024, g (1024 * (t / 8) + p) (1024 * (t % 8) + q)
      = ∑ i ∈ Finset.range 8192, ∑ j ∈ Finset.range 8192, g i j := by
  rw [show 64 = 8 * 8 from rfl,
    Finset.sum_range_mul_divmod 8 8 (fun a b => ∑ q ∈ Finset.range 1024, ∑ p ∈ Finset.range 1024, g (1024 * a + p) (1024 * b + q)),
    sum_blocks (fun i => ∑ j ∈ Finset.range 8192, g i j)]
  refine Finset.sum_congr rfl fun a _ => ?_
  simp only [sum_blocks (fun j => g _ j)]
  rw [Finset.sum_comm (s := Finset.range 1024) (t := Finset.range 8)]
  exact Finset.sum_congr rfl fun b _ => Finset.sum_comm

/-- The columns' sums after the last point. -/
theorem cols_final (J : Fin 8192) : colT (stF V c 64).cols J = ∑ i ∈ Finset.range 8192, I.x i J.val := by
  rw [cols_state hI J 64 le_rfl, show 64 = 8 * 8 from rfl,
    Finset.sum_range_mul_divmod 8 8 (fun a b => if b = J.val / 1024 then ∑ p ∈ Finset.range 1024, I.x (1024 * a + p) J.val else 0),
    sum_blocks (fun i => I.x i J.val)]
  refine Finset.sum_congr rfl fun a _ => ?_
  rw [Finset.sum_ite_eq' (Finset.range 8) (J.val / 1024), if_pos (Finset.mem_range.mpr (by omega))]

/-- The rows' sums after the last point of a row of blocks. -/
theorem rows_final (p : Fin 1024) (n : ℕ) (hn : n < 64) (h7 : n % 8 = 7) :
    rowT (stF V c (n + 1)).rows p = ∑ j ∈ Finset.range 8192, I.x (1024 * (n / 8) + p.val) j := by
  rw [rows_state hI p n hn, h7, sum_blocks (fun j => I.x (1024 * (n / 8) + p.val) j)]

/-- After the grid, the first accumulator's total is the number of edges. -/
theorem ne_final : tot (stF V c 64).ne = ∑ i ∈ Finset.range 8192, ∑ j ∈ Finset.range 8192, I.ne i j := by
  rw [tot_state hI Acc.ne I.ne (fun _ => word_zero) (fun _ => rfl) (fun _ => rfl) (fun hB i S => ne_point hB i S) 64 le_rfl, sum_all]
/-- After the grid, the second accumulator's total is the path cost. -/
theorem pc_final : tot (stF V c 64).pc = ∑ i ∈ Finset.range 8192, ∑ j ∈ Finset.range 8192, I.pc i j := by
  rw [tot_state hI Acc.pc I.pc (fun _ => word_zero) (fun _ => rfl) (fun _ => rfl) (fun hB i S => pc_point hB i S) 64 le_rfl, sum_all]
/-- After the grid, the third accumulator's total is the sum of `x²`. -/
theorem x2_final : tot (stF V c 64).x2 = ∑ i ∈ Finset.range 8192, ∑ j ∈ Finset.range 8192, I.x2 i j := by
  rw [tot_state hI Acc.x2 I.x2 (fun _ => word_zero) (fun _ => rfl) (fun _ => rfl) (fun hB i S => x2_point hB i S) 64 le_rfl, sum_all]
/-- After the grid, the fourth accumulator's total is the heuristic's sum. -/
theorem he_final : tot (stF V c 64).he = ∑ i ∈ Finset.range 8192, ∑ j ∈ Finset.range 8192, I.he i j := by
  rw [tot_state hI Acc.he I.he (fun _ => word_zero) (fun _ => rfl) (fun _ => rfl) (fun hB i S => he_point hB i S) 64 le_rfl, sum_all]

end Cert.KernelIdeal.Hopfield

end
-- ==== Proof.ArrayValue.lean ====
/-
  What the two kernels put out, read entry by entry: the row sums, the sums that the second kernel forms, and the
  arrays that the first kernel leaves to the second.
-/
module

public import proofs.«01_k».proof.Proof.StateValue
public import proofs.«01_k».proof.Proof.Regions
public import Idealize.ShloMosaic.Lib.Pipeline.ValueKit

@[expose] public section

set_option maxRecDepth 16384

noncomputable section

namespace Cert.KernelIdeal.Hopfield

open Idealize.ShloMosaic Cert.KernelIdeal Cert.KernelIdeal.Gen Cert.Hopfield
open VecWindow (window put)
open Facts₀ Facts

/-- What is put out for row `p` is the sum of that row's buffer. -/
theorem rowsOut_apply (r : Vec Ideal S1024x128 .f32) (p : Fin 1024) : rowsOut r (ix2 0 p) = rowT r p := by
  change S1024x128.Idx → EReal at r
  unfold rowT
  pointwise [rowsOut]

/-- The column sums added up over the eight partial rows are the columns' totals. -/
theorem colSums_apply (v : Vec Ideal S8x8192 .f32) (J : Fin 8192) : colSums v (ix2 0 J) = colT v J := by
  change S8x8192.Idx → EReal at v
  unfold colT
  pointwise [colSums]

/-- The sum of a row, as a sum over its entries. -/
theorem rowTotal_apply (v : FVec Ideal S1x8192 .f32) : rowTotal v (ix2 0 0) = ∑ J : Fin 8192, v (ix2 0 J) := by
  pointwise [rowTotal]

/-- The sum of an accumulator in two steps, over its rows and then over its lanes, is its total. -/
theorem accTotal_apply (v : FVec Ideal S8x128 .f32) : accTotal v (ix2 0 0) = tot v := by
  unfold tot
  rw [Finset.sum_comm]
  pointwise [accTotal]

/-- The four quarters of the accumulators' array are its rows 0–7, 8–15, 16–23 and 24–31. -/
theorem quarters_apply (X : Vec Ideal S32x128 .f32) (s : Fin 8) (l : Fin 128) :
    quarter0 X (ix2 s l) = X (ix2 ⟨s.val, by omega⟩ l) ∧ quarter1 X (ix2 s l) = X (ix2 ⟨8 + s.val, by omega⟩ l)
      ∧ quarter2 X (ix2 s l) = X (ix2 ⟨16 + s.val, by omega⟩ l) ∧ quarter3 X (ix2 s l) = X (ix2 ⟨24 + s.val, by omega⟩ l) := by
  change S32x128.Idx → EReal at X
  refine ⟨?_, ?_, ?_, ?_⟩
  · pointwise [quarter0]
  · pointwise [quarter1]
  · pointwise [quarter2]
  · pointwise [quarter3]

/-- What one piece put over another leaves, inside the piece. -/
theorem put8_in (X : Vec Ideal S32x128 .f32) (j : Fin 4) (w : Vec Ideal S8x128 .f32) (y : Fin 32) (l : Fin 128) (h : 8 * j.val ≤ y.val ∧ y.val < 8 * j.val + 8) :
    put X ![8 * j.val, 0] S8x128.size w (ix2 y l) = w (ix2 (⟨y.val - 8 * j.val, by omega⟩ : Fin 8) l) := by
  have hin : ∀ a, (![8 * j.val, 0] : Fin 2 → ℕ) a ≤ (ix2 y l a).val ∧ (ix2 y l a).val < (![8 * j.val, 0] : Fin 2 → ℕ) a + S8x128.size a := fun a =>
    match a with
    | 0 => h
    | 1 => ⟨Nat.zero_le _, by show l.val < 0 + 128; omega⟩
  unfold put
  rw [dif_pos hin]
  exact congrArg w (funext fun a => match a with
    | 0 => rfl
    | 1 => rfl)

/-- And outside it. -/
theorem put8_out (X : Vec Ideal S32x128 .f32) (j : Fin 4) (w : Vec Ideal S8x128 .f32) (y : Fin 32) (l : Fin 128) (h : ¬ (8 * j.val ≤ y.val ∧ y.val < 8 * j.val + 8)) :
    put X ![8 * j.val, 0] S8x128.size w (ix2 y l) = X (ix2 y l) := by
  unfold put
  rw [dif_neg fun hall => h (hall 0)]

/-- The four accumulators put out one under another are read back as the four quarters. -/
theorem accsOut_quarters (S : Acc Ideal) : quarter0 (accsOut S) = S.ne ∧ quarter1 (accsOut S) = S.pc ∧ quarter2 (accsOut S) = S.x2 ∧ quarter3 (accsOut S) = S.he := by
  refine ⟨?_, ?_, ?_, ?_⟩ <;> funext y
  all_goals
    obtain ⟨s, l, rfl⟩ : ∃ (s : Fin 8) (l : Fin 128), y = ix2 s l := ⟨y 0, y 1, eq_ix2 y⟩
  · rw [(quarters_apply _ s l).1]
    unfold accsOut accsOver
    rw [put8_out _ 3 _ _ _ (by show ¬ (8 * 3 ≤ s.val ∧ s.val < _); omega), put8_out _ 2 _ _ _ (by show ¬ (8 * 2 ≤ s.val ∧ s.val < _); omega),
      put8_out _ 1 _ _ _ (by show ¬ (8 * 1 ≤ s.val ∧ s.val < _); omega), put8_in _ 0 _ _ _ (by show 8 * 0 ≤ s.val ∧ s.val < 8 * 0 + 8; omega)]
    exact congrArg S.ne (congrArg (ix2 · l) (Fin.ext (by show s.val - 8 * 0 = s.val; omega)))
  · rw [(quarters_apply _ s l).2.1]
    unfold accsOut accsOver
    rw [put8_out _ 3 _ _ _ (by show ¬ (8 * 3 ≤ 8 + s.val ∧ 8 + s.val < _); omega), put8_out _ 2 _ _ _ (by show ¬ (8 * 2 ≤ 8 + s.val ∧ 8 + s.val < _); omega),
      put8_in _ 1 _ _ _ (by show 8 * 1 ≤ 8 + s.val ∧ 8 + s.val < 8 * 1 + 8; omega)]
    exact congrArg S.pc (congrArg (ix2 · l) (Fin.ext (by show 8 + s.val - 8 * 1 = s.val; omega)))
  · rw [(quarters_apply _ s l).2.2.1]
    unfold accsOut accsOver
    rw [put8_out _ 3 _ _ _ (by show ¬ (8 * 3 ≤ 16 + s.val ∧ 16 + s.val < _); omega),
      put8_in _ 2 _ _ _ (by show 8 * 2 ≤ 16 + s.val ∧ 16 + s.val < 8 * 2 + 8; omega)]
    exact congrArg S.x2 (congrArg (ix2 · l) (Fin.ext (by show 16 + s.val - 8 * 2 = s.val; omega)))
  · rw [(quarters_apply _ s l).2.2.2]
    unfold accsOut accsOver
    rw [put8_in _ 3 _ _ _ (by show 8 * 3 ≤ 24 + s.val ∧ 24 + s.val < 8 * 3 + 8; omega)]
    exact congrArg S.he (congrArg (ix2 · l) (Fin.ext (by show 24 + s.val - 8 * 3 = s.val; omega)))

/-- A vector's and a matrix's entries over natural numbers. -/
def ent1 (d : Fin 8192 → EReal) (i : ℕ) : EReal := d (Fin.ofNat 8192 i)
/-- An entry of an 8192 × 8192 array by two natural numbers. -/
def ent2 (X : S8192x8192.Idx → EReal) (i j : ℕ) : EReal := X (ix2 (Fin.ofNat 8192 i) (Fin.ofNat 8192 j))

/-- The entries of logits, distances and vertices' distances. -/
def inputs (lg dm : S8192x8192.Idx → EReal) (d : Fin 8192 → EReal) : Inputs := ⟨ent2 lg, ent2 dm, ent1 d⟩

/-- At each grid point, the block of row distances is that of the block's rows. -/
theorem index0_0 : ∀ t : Fin grid0.N, win0_0.index t = ![t.val / 8, 0] := by decide +kernel
/-- At each grid point, the block of column distances is that of the block's columns. -/
theorem index0_1 : ∀ t : Fin grid0.N, win0_1.index t = ![0, t.val % 8] := by decide +kernel
/-- At each grid point, the block of logits has the block's row and column. -/
theorem index0_2 : ∀ t : Fin grid0.N, win0_2.index t = ![t.val / 8, t.val % 8] := by decide +kernel
/-- At each grid point, the block of distances has the block's row and column. -/
theorem index0_3 : ∀ t : Fin grid0.N, win0_3.index t = ![t.val / 8, t.val % 8] := by decide +kernel
/-- At each grid point, the block of row sums put out is that of the block's rows. -/
theorem index0_4 : ∀ t : Fin grid0.N, win0_4.index t = ![0, t.val / 8] := by decide +kernel

/-- Where the row and the column of distances hold the same numbers, the blocks read at the grid points are the
    blocks of the whole arrays. -/
theorem filled (V : Entry Ideal) (c : Dev nD) (d : Fin 8192 → EReal)
    (h9 : ∀ i : Fin 8192, (V c (Proc.devRef .tc main_v9) : S8192x1.Idx → EReal) (ix2 i 0) = d i)
    (h10 : ∀ i : Fin 8192, (V c (Proc.devRef .tc main_v10) : S1x8192.Idx → EReal) (ix2 0 i) = d i) :
    Filled V c (inputs (V c (Proc.devRef .tc main_arg0)) (V c (Proc.devRef .tc main_arg1)) d) := fun t => by
  have ht : t.val < 64 := t.isLt
  constructor
  · intro p q
    show V c (Proc.devRef .tc main_arg0) (((cfg0.win 2).blk t).view.emb (ix2 p q)) = V c (Proc.devRef .tc main_arg0) _
    refine congrArg (V c (Proc.devRef .tc main_arg0)) ?_
    blk_ext [index0_2 t]
    all_goals (show _ = _ % 8192; omega)
  · intro p q
    show V c (Proc.devRef .tc main_arg1) (((cfg0.win 3).blk t).view.emb (ix2 p q)) = V c (Proc.devRef .tc main_arg1) _
    refine congrArg (V c (Proc.devRef .tc main_arg1)) ?_
    blk_ext [index0_3 t]
    all_goals (show _ = _ % 8192; omega)
  · intro p
    refine Eq.trans ?_ (h9 (Fin.ofNat 8192 (1024 * (t.val / 8) + p.val)))
    show V c (Proc.devRef .tc main_v9) (((cfg0.win 0).blk t).view.emb (ix2 p 0)) = V c (Proc.devRef .tc main_v9) _
    refine congrArg (V c (Proc.devRef .tc main_v9)) ?_
    blk_ext [index0_0 t]
    all_goals (show _ = _ % 8192; omega)
  · intro q
    refine Eq.trans ?_ (h10 (Fin.ofNat 8192 (1024 * (t.val % 8) + q.val)))
    show V c (Proc.devRef .tc main_v10) (((cfg0.win 1).blk t).view.emb (ix2 0 q)) = V c (Proc.devRef .tc main_v10) _
    refine congrArg (V c (Proc.devRef .tc main_v10)) ?_
    blk_ext [index0_1 t]
    all_goals (show _ = _ % 8192; omega)

section
variable {V : Entry Ideal} {c : Dev nD} {I : Inputs} (hI : Filled V c I)
include hI

/-- What the first kernel leaves in the row sums' array. -/
theorem arr4 : (dat0 (U := UU) V c).arrAt 4 cfg0.N = (fun i : S1x8192.Idx => ∑ j ∈ Finset.range 8192, I.x (i 1).val j) := by
  refine (dat0 (U := UU) V c).arrAt_eq_of_covers 4 _ (by decide +kernel) fun t hf y => ?_
  have h7 := (flush0_4 t).mp hf
  have ht : t.val < 64 := t.isLt
  obtain ⟨z, p, rfl⟩ : ∃ (z : Fin 1) (p : Fin 1024), y = ix2 z p := ⟨y 0, y 1, eq_ix2 y⟩
  obtain rfl : z = 0 := Subsingleton.elim _ _
  refine Eq.trans ((rowsOut_apply _ p).trans (rows_final hI p t.val ht h7)) ?_
  blk_simp [index0_4 t]
  rw [Nat.mul_comm]

/-- The column sums put out are one block, at every grid point. -/
theorem index0_5 : ∀ t : Fin grid0.N, win0_5.index t = ![0, 0] := by decide +kernel
/-- The accumulators put out are one block, at every grid point. -/
theorem index0_6 : ∀ t : Fin grid0.N, win0_6.index t = ![0, 0] := by decide +kernel

omit hI in
/-- What the first kernel leaves in the column sums' array. -/
theorem arr5 : (dat0 (U := UU) V c).arrAt 5 cfg0.N = (stF V c 64).cols := by
  refine (dat0 (U := UU) V c).arrAt_eq_of_after_last 5 (⟨63, by decide⟩ : Fin grid0.N) (by decide +kernel) _ fun j => ?_
  refine Eq.trans rfl (congrArg (stF V c 64).cols ?_)
  blk_ext [index0_5]

omit hI in
/-- What the first kernel leaves in the accumulators' array. -/
theorem arr6 : (dat0 (U := UU) V c).arrAt 6 cfg0.N = accsOut (stF V c 64) := by
  refine (dat0 (U := UU) V c).arrAt_eq_of_after_last 6 (⟨63, by decide⟩ : Fin grid0.N) (by decide +kernel) _ fun j => ?_
  refine Eq.trans rfl (congrArg (accsOut (stF V c 64)) ?_)
  blk_ext [index0_6]

end

/-- The second kernel's array is what its one grid point puts out. -/
theorem res_arr (V : Entry Ideal) (c : Dev nD) : (dat1 V c).arrAt 5 cfg1.N = res2 V c := by
  refine (dat1 V c).arrAt_eq_of_after_last 5 t1_0 (by decide +kernel) _ fun j => ?_
  refine Eq.trans rfl (congrArg (res2 V c) ?_)
  blk_ext

end Cert.KernelIdeal.Hopfield

end
-- ==== Proof.HostValue.lean ====
/-
  The host program around the kernels: what its operations before the first kernel leave in the kernels' operands,
  and how the result is read off the second kernel's row.
-/
module

public import proofs.«01_k».proof.Proof.ArrayValue
public import proofs.«01_k».proof.Proof.Run
public import Idealize.ShloMosaic.Lib.StableHlo.Run
public import Idealize.ShloMosaic.Lib.StableHlo.RunRead

@[expose] public section

noncomputable section

namespace Cert.KernelIdeal.Hopfield

open Idealize.ShloMosaic Idealize.ShloMosaic.TcCoe Cert.KernelIdeal Cert.KernelIdeal.Gen Idealize.ShloMosaic.StableHlo
open Idealize.SL.Sem

variable {F : FTy → Type} [FloatOps F]

/-- The destination counted from the front. -/
def rowK (d : IVec S_ 32) : IVec S_ 32 := select (cmpi .slt d (constantI S_ 32 0#32)) (addi d (constantI S_ 32 8192#32)) d

/-- Whether that is a row. -/
def insideK (d : IVec S_ 32) : IVec S_ 1 :=
  Host.reduce IntOp.andi (andi (cmpi .sge (broadcastInDim S1 ![] bcast_S_S1 (rowK d)) (broadcastInDim S1 ![] bcast_S_S1 (constantI S_ 32 0#32)))
    (cmpi .sle (broadcastInDim S1 ![] bcast_S_S1 (rowK d)) (constantI S1 32 8191#32))) (constantI S_ 1 1#1) reducesTo_S1_S_d0 h_S_

/-- The destination's coordinates as the host looks them up. -/
def placeK (co : FVec F S8192x2 .f32) (d : IVec S_ 32) : FVec F S2 .f32 :=
  select (broadcastInDim S2 ![] bcast_S_S2 (insideK d))
    (Host.gather gather_S8192x2_S1_S2_0_0_n_n_0_0_12 co (broadcastInDim S1 ![] bcast_S_S1 (rowK d)))
    (broadcastInDim S2 ![] bcast_S_S2 (constant S_ .f32 0x7FC00000#32))

/-- The offsets of the coordinates from a point. -/
def offsetK (co : FVec F S8192x2 .f32) (p : FVec F S2 .f32) : FVec F S8192x2 .f32 :=
  subf co (broadcastInDim S8192x2 ![0, 1] bcast_S1x2_S8192x2_0_1 (broadcastInDim S1x2 ![1] bcast_S2_S1x2_1 p))

/-- The distances to a point. -/
def distanceK (co : FVec F S8192x2 .f32) (p : FVec F S2 .f32) : FVec F S8192 .f32 :=
  Host.sqrt (Host.reduceAdd (mulf (offsetK co p) (offsetK co p)) (constant S_ .f32 0x00000000#32) reducesTo_S8192x2_S8192_d1 h_S_)

section

variable (V : Valuation τ sig (Elt F))

/-- The host's gather leaves the destination's coordinates. -/
theorem taken : after hostOps0_1 V (no_index (Proc.devRef .tc main_v2)) = placeK (V (Proc.devRef .tc main_arg2)) (V (Proc.devRef .tc main_arg4)) := by
  simp only [hostOps0_1, TRef.binary, TRef.nullary, TRef.unary, TRef.ternary, TRef.toBuf, TRef.ofBuf, cast_eq]
  after_results_simp <;> rfl

/-- The host leaves the distances to the destination as a column. -/
theorem distanced9 : after hostOps0_2 V (no_index (Proc.devRef .tc main_v9))
    = shapeCast S8192x1 (distanceK (V (Proc.devRef .tc main_arg2)) (V (Proc.devRef .tc main_v2))) shapeCasts_S8192_S8192x1 := by
  after_results_simp <;> rfl

/-- The host leaves the distances to the destination as a row. -/
theorem distanced10 : after hostOps0_2 V (no_index (Proc.devRef .tc main_v10))
    = shapeCast S1x8192 (distanceK (V (Proc.devRef .tc main_arg2)) (V (Proc.devRef .tc main_v2))) shapeCasts_S8192_S1x8192 := by
  after_results_simp <;> rfl

/-- The host leaves the source as an array of one word. -/
theorem cast0 : after hostOps0 V (no_index (Proc.devRef .tc main_v0)) = shapeCast S1 (V (Proc.devRef .tc main_arg3) : IVec S_ 32) shapeCasts_S_S1 := by
  after_results_simp <;> rfl

/-- The host leaves the destination as an array of one word. -/
theorem cast1 : after hostOps0 V (no_index (Proc.devRef .tc main_v1)) = shapeCast S1 (V (Proc.devRef .tc main_arg4) : IVec S_ 32) shapeCasts_S_S1 := by
  after_results_simp <;> rfl

/-- The result is the first entry of the second kernel's array. -/
theorem read14 : after hostOps2 V (no_index (Proc.devRef .tc main_v14))
    = shapeCast S_ (extractStridedSlice S1x1 ![0, 0] (V (Proc.devRef .tc main_v12) : FVec F S1x128 .f32) slices_S1x128_S1x1_0_0) shapeCasts_S1x1_S_ := by
  after_results_simp <;> rfl

end

variable (m : (ℓ : Loc nD τ sig) → Buf (Elt F) ℓ) (c : Dev nD)

/-- The distances to the destination, from the launch memory. -/
def distances : FVec F S8192 .f32 :=
  distanceK (m ((c.tc : Thread nD τ).loc main_arg2)) (placeK (m ((c.tc : Thread nD τ).loc main_arg2)) (m ((c.tc : Thread nD τ).loc main_arg4)))

/-- The host code before the first kernel leaves the arguments alone. -/
theorem V3_arg (r : Ref sig .tc) (h : r ∈ [main_arg0, main_arg1, main_arg2, main_arg3, main_arg4]) :
    V3 m c (Proc.devRef .tc r) = m ((c.tc : Thread nD τ).loc r) := by
  have h : r = main_arg0 ∨ r = main_arg1 ∨ r = main_arg2 ∨ r = main_arg3 ∨ r = main_arg4 := by simpa using h
  obtain rfl | rfl | rfl | rfl | rfl := h <;>
    exact (V3_of m c _ (by decide)).trans ((V2_of m c _ (by decide)).trans (V1_of m c _ (by decide)))

/-- Before the distances are computed, the destination's coordinates are those of the arguments. -/
theorem V2_main_v2 : V2 m c (Proc.devRef .tc main_v2) = placeK (m ((c.tc : Thread nD τ).loc main_arg2)) (m ((c.tc : Thread nD τ).loc main_arg4)) := by
  refine (taken (V1 m c)).trans ?_
  rw [V1_of m c main_arg2 (by decide), V1_of m c main_arg4 (by decide)]

/-- When the first kernel starts, its first operand is the column of distances. -/
theorem V3_main_v9 : V3 m c (Proc.devRef .tc main_v9) = shapeCast S8192x1 (distances m c) shapeCasts_S8192_S8192x1 := by
  refine (distanced9 (V2 m c)).trans ?_
  rw [V2_main_v2, V2_of m c main_arg2 (by decide), V1_of m c main_arg2 (by decide)]
  rfl

/-- When the first kernel starts, its second operand is the row of distances. -/
theorem V3_main_v10 : V3 m c (Proc.devRef .tc main_v10) = shapeCast S1x8192 (distances m c) shapeCasts_S8192_S1x8192 := by
  refine (distanced10 (V2 m c)).trans ?_
  rw [V2_main_v2, V2_of m c main_arg2 (by decide), V1_of m c main_arg2 (by decide)]
  rfl

/-- When the first kernel starts, the source is there as one word. -/
theorem V3_main_v0 : V3 m c (Proc.devRef .tc main_v0) = shapeCast S1 (m ((c.tc : Thread nD τ).loc main_arg3) : IVec S_ 32) shapeCasts_S_S1 :=
  (V3_of m c _ (by decide)).trans ((V2_of m c _ (by decide)).trans (cast0 (V0 m c)))

/-- When the first kernel starts, the destination is there as one word. -/
theorem V3_main_v1 : V3 m c (Proc.devRef .tc main_v1) = shapeCast S1 (m ((c.tc : Thread nD τ).loc main_arg4) : IVec S_ 32) shapeCasts_S_S1 :=
  (V3_of m c _ (by decide)).trans ((V2_of m c _ (by decide)).trans (cast1 (V0 m c)))

/-- The first kernel leaves the buffers that it doesn't put out as they were. -/
theorem X1_keeps (r : Ref sig .tc) (h : r ∈ [main_v0, main_v1]) : X1 m c (Proc.devRef .tc r) = V3 m c (Proc.devRef .tc r) := by
  refine Pipeline.afterRegion_keeps (dat0 (U := UU) (V3 m) c) (V3 m c) launch0.win.arr_inj (fun _ => rfl) r ?_
  have h : r = main_v0 ∨ r = main_v1 := by simpa using h
  intro w hw
  exfalso
  revert w
  obtain rfl | rfl := h <;> decide

/-- After the first kernel, the row sums' array is what its grid leaves there. -/
theorem X1_4 : X1 m c (Proc.devRef .tc main_v11_0) = (dat0 (U := UU) (V3 m) c).arrAt 4 cfg0.N :=
  Pipeline.afterRegion_arr (dat0 (U := UU) (V3 m) c) (V3 m c) launch0.win.arr_inj 4
/-- After the first kernel, the column sums' array is what its grid leaves there. -/
theorem X1_5 : X1 m c (Proc.devRef .tc main_v11_1) = (dat0 (U := UU) (V3 m) c).arrAt 5 cfg0.N :=
  Pipeline.afterRegion_arr (dat0 (U := UU) (V3 m) c) (V3 m c) launch0.win.arr_inj 5
/-- After the first kernel, the accumulators' array is what its grid leaves there. -/
theorem X1_6 : X1 m c (Proc.devRef .tc main_v11_2) = (dat0 (U := UU) (V3 m) c).arrAt 6 cfg0.N :=
  Pipeline.afterRegion_arr (dat0 (U := UU) (V3 m) c) (V3 m c) launch0.win.arr_inj 6
/-- After the second kernel, its array is what it leaves there. -/
theorem X2_5 : X2 m c (Proc.devRef .tc main_v12) = (dat1 (X1 m) c).arrAt 5 cfg1.N :=
  Pipeline.afterRegion_arr (dat1 (X1 m) c) (X1 m c) launch1.win.arr_inj 5

section

variable (V : Entry F)

/-- The second kernel reads the source from the start of its array. -/
theorem index1_0 : win1_0.index t1_0 = ![0] := by decide +kernel
/-- The second kernel reads the destination from the start of its array. -/
theorem index1_1 : win1_1.index t1_0 = ![0] := by decide +kernel
/-- The second kernel reads the row sums from the start of their array. -/
theorem index1_2 : win1_2.index t1_0 = ![0, 0] := by decide +kernel
/-- The second kernel reads the column sums from the start of their array. -/
theorem index1_3 : win1_3.index t1_0 = ![0, 0] := by decide +kernel
/-- The second kernel reads the accumulators from the start of their array. -/
theorem index1_4 : win1_4.index t1_0 = ![0, 0] := by decide +kernel

/-- The second kernel reads the whole array of the source. -/
theorem src2_eq : src2 V c = V c (Proc.devRef .tc main_v0) := funext fun y => by
  show V c (Proc.devRef .tc main_v0) _ = V c (Proc.devRef .tc main_v0) _
  refine congrArg (V c (Proc.devRef .tc main_v0)) ?_
  blk_ext [index1_0]
/-- The second kernel reads the whole array of the destination. -/
theorem dst2_eq : dst2 V c = V c (Proc.devRef .tc main_v1) := funext fun y => by
  show V c (Proc.devRef .tc main_v1) _ = V c (Proc.devRef .tc main_v1) _
  refine congrArg (V c (Proc.devRef .tc main_v1)) ?_
  blk_ext [index1_1]
/-- The second kernel reads the whole array of row sums. -/
theorem out2_eq : out2 V c = V c (Proc.devRef .tc main_v11_0) := funext fun y => by
  show V c (Proc.devRef .tc main_v11_0) _ = V c (Proc.devRef .tc main_v11_0) _
  refine congrArg (V c (Proc.devRef .tc main_v11_0)) ?_
  blk_ext [index1_2]
/-- The second kernel reads the whole array of column sums. -/
theorem inn2_eq : inn2 V c = V c (Proc.devRef .tc main_v11_1) := funext fun y => by
  show V c (Proc.devRef .tc main_v11_1) _ = V c (Proc.devRef .tc main_v11_1) _
  refine congrArg (V c (Proc.devRef .tc main_v11_1)) ?_
  blk_ext [index1_3]
/-- The second kernel reads the whole array of accumulators. -/
theorem acc2_eq : acc2 V c = V c (Proc.devRef .tc main_v11_2) := funext fun y => by
  show V c (Proc.devRef .tc main_v11_2) _ = V c (Proc.devRef .tc main_v11_2) _
  refine congrArg (V c (Proc.devRef .tc main_v11_2)) ?_
  blk_ext [index1_4]

end

section

variable (m : (ℓ : Loc nD τ sig) → Buf (Elt Ideal) ℓ) (c : Dev nD)

/-- The entries of the launch memory's logits and distances, and the distances to the destination. -/
def given : Inputs := inputs (m ((c.tc : Thread nD τ).loc main_arg0)) (m ((c.tc : Thread nD τ).loc main_arg1)) (fun i => distances m c (ix1 i))

/-- At every grid point the first kernel reads the blocks of the arguments and of the distances. -/
theorem given_filled : Filled (V3 m) c (given m c) := by
  have h := filled (V3 m) c (fun i => distances m c (ix1 i))
    (fun i => by
      rw [V3_main_v9]
      generalize distances m c = v
      change S8192.Idx → EReal at v
      pointwise)
    (fun i => by
      rw [V3_main_v10]
      generalize distances m c = v
      change S8192.Idx → EReal at v
      pointwise)
  rwa [V3_arg m c main_arg0 (by decide), V3_arg m c main_arg1 (by decide)] at h

/-- The second kernel reads, for each vertex, the sum of `x` over its row. -/
theorem out2_X1 : out2 (X1 m) c = (fun i : S1x8192.Idx => ∑ j ∈ Finset.range 8192, (given m c).x (i 1).val j) :=
  (out2_eq c _).trans ((X1_4 m c).trans (arr4 (given_filled m c)))
/-- The second kernel reads the columns' buffer as the first kernel's last grid point leaves it. -/
theorem inn2_X1 : inn2 (X1 m) c = (stF (V3 m) c 64).cols := (inn2_eq c _).trans ((X1_5 m c).trans arr5)
/-- The second kernel reads the four accumulators as the first kernel's last grid point leaves them. -/
theorem acc2_X1 : acc2 (X1 m) c = accsOut (stF (V3 m) c 64) := (acc2_eq c _).trans ((X1_6 m c).trans arr6)

/-- The second kernel reads the argument's source. -/
theorem src2_X1 : word (src2 (X1 m) c) = (m ((c.tc : Thread nD τ).loc main_arg3) : IVec S_ 32) ix0 := by
  rw [src2_eq, X1_keeps m c _ (by decide), V3_main_v0]
  exact congrArg (m ((c.tc : Thread nD τ).loc main_arg3) : IVec S_ 32) (funext fun a => a.elim0)
/-- The second kernel reads the argument's destination. -/
theorem dst2_X1 : word (dst2 (X1 m) c) = (m ((c.tc : Thread nD τ).loc main_arg4) : IVec S_ 32) ix0 := by
  rw [dst2_eq, X1_keeps m c _ (by decide), V3_main_v1]
  exact congrArg (m ((c.tc : Thread nD τ).loc main_arg4) : IVec S_ 32) (funext fun a => a.elim0)

/-- The result is the energy that the second kernel computes. -/
theorem result_eq : result m c = (fun _ : S_.Idx => energyOf ((m ((c.tc : Thread nD τ).loc main_arg3) : IVec S_ 32) ix0)
    ((m ((c.tc : Thread nD τ).loc main_arg4) : IVec S_ 32) ix0) (out2 (X1 m) c) (inn2 (X1 m) c) (acc2 (X1 m) c) (ix2 0 0)) := by
  refine (read14 (V5 m (outs m) c)).trans ?_
  rw [V5_eq, X2_5, res_arr]
  unfold res2
  rw [src2_X1, dst2_X1]
  generalize energyOf (F := Ideal) _ _ _ _ _ = v
  change S1x1.Idx → EReal at v
  funext j
  pointwise [spread]

end

end Cert.KernelIdeal.Hopfield

end
-- ==== Proof.KernelValue.lean ====
/-
  The kernel's result, as a formula over the entries of its arguments.
-/
module

public import proofs.«01_k».proof.Proof.HostValue

@[expose] public section

noncomputable section

namespace Cert.Hopfield

open Idealize.ShloMosaic

/-- The penalties' weight from the edge count. -/
def weightAt (ne : EReal) : EReal :=
  Ideal.ofBits .f32 0x41200000#32 * (Ideal.ofBits .f32 0x3F800000#32 + Ideal.div ne (Ideal.ofBits .f32 0x4C800000#32))

/-- The energy from the edge count, the path cost, the flow penalty, the binary penalty and the heuristic sum. -/
def energyAt (ne pc fl bi he : EReal) : EReal :=
  Ideal.div pc (ne + Ideal.ofBits .f32 0x358637BD#32) + Ideal.div (weightAt ne * fl) (Ideal.ofBits .f32 0x46000000#32)
    + Ideal.div (weightAt ne * bi) (Ideal.ofBits .f32 0x4C800000#32)
    - Ideal.ofBits .f32 0x3F000000#32 * Ideal.div he (Ideal.ofBits .f32 0x46000000#32)

/-- One at the position that a word names, zero elsewhere. -/
def hot (w : BitVec 32) (j : ℕ) : EReal := if BitVec.ofNat 32 j = w then 1 else 0

end Cert.Hopfield

namespace Cert.KernelIdeal.Hopfield

open Idealize.ShloMosaic Idealize.ShloMosaic.TcCoe Cert.KernelIdeal Cert.KernelIdeal.Gen Cert.Hopfield
open Idealize.SL.Sem

/-- The flow's deviation from its target at a vertex. -/
def Inputs.gap (I : Inputs) (s d : BitVec 32) (j : ℕ) : EReal :=
  ((∑ k ∈ Finset.range 8192, I.x j k) - ∑ i ∈ Finset.range 8192, I.x i j) - (hot s j - hot d j)

/-- The energy of the entries, its binary penalty still a difference of sums. -/
def Inputs.energy (I : Inputs) (s d : BitVec 32) (bi : EReal) : EReal :=
  energyAt (∑ i ∈ Finset.range 8192, ∑ j ∈ Finset.range 8192, I.ne i j) (∑ i ∈ Finset.range 8192, ∑ j ∈ Finset.range 8192, I.pc i j)
    (∑ j ∈ Finset.range 8192, I.gap s d j * I.gap s d j) bi (∑ i ∈ Finset.range 8192, ∑ j ∈ Finset.range 8192, I.he i j)

/-- The vector that is 1 at position `w`: its entries. -/
theorem spike_apply (w : BitVec 32) (J : Fin 8192) : spike (F := Ideal) w (ix2 0 J) = hot w J.val := by
  unfold hot
  pointwise [spike]
  show (((BitVec.setWidth 32 (IntOp.cmpi CmpIPredicate.eq (BitVec.ofNat 32 J.val) w)).toInt : ℝ) : EReal) = _
  by_cases h : BitVec.ofNat 32 J.val = w
  · simp [h, IntOp.cmpi]
  · have h' : (BitVec.ofNat 32 J.val == w) = false := beq_eq_false_iff_ne.2 h
    unfold IntOp.cmpi
    rw [if_neg h, h']
    simp

/-- The flow's deviation at a vertex: the row's sum less the column's sum less the target. -/
theorem deviation_apply (s d : BitVec 32) (out : Vec Ideal S1x8192 .f32) (inn : Vec Ideal S8x8192 .f32) (J : Fin 8192) :
    deviation s d out inn (ix2 0 J) = (out (ix2 0 J) - colT inn J) - (hot s J.val - hot d J.val) := by
  rw [← spike_apply, ← spike_apply, ← colSums_apply]
  pointwise [deviation]

/-- The energy as a formula on five numbers. -/
theorem energy_apply (ne pc fl bi he : FVec Ideal S1x1 .f32) :
    energy ne pc fl bi he (ix2 0 0) = energyAt (ne (ix2 0 0)) (pc (ix2 0 0)) (fl (ix2 0 0)) (bi (ix2 0 0)) (he (ix2 0 0)) := by
  change S1x1.Idx → EReal at ne pc fl bi he
  unfold energyAt weightAt
  rw [← pairs_eq]
  rfl

variable (m : (ℓ : Loc nD τ sig) → Buf (Elt Ideal) ℓ) (c : Dev nD)

/-- `Σ x − Σ x²`, the one summed by columns and the other by rows, is `Σ x·(1 − x)`, since every `x` is a real
    number. -/
theorem binary_sums (I : Inputs) : (∑ J ∈ Finset.range 8192, ∑ i ∈ Finset.range 8192, I.x i J) - (∑ i ∈ Finset.range 8192, ∑ j ∈ Finset.range 8192, I.x2 i j)
    = ∑ i ∈ Finset.range 8192, ∑ j ∈ Finset.range 8192, I.x i j * (1 - I.x i j) := by
  rw [Finset.sum_comm]
  simp only [← Finset.sum_product']
  exact binary_eq _ (fun q : ℕ × ℕ => I.x q.1 q.2) fun q => path_real _ _

/-- The kernel's result over the entries of its arguments. -/
theorem result_value : result m c = (fun _ : S_.Idx => (given m c).energy ((m ((c.tc : Thread nD τ).loc main_arg3) : IVec S_ 32) ix0)
    ((m ((c.tc : Thread nD τ).loc main_arg4) : IVec S_ 32) ix0)
    (∑ i ∈ Finset.range 8192, ∑ j ∈ Finset.range 8192, (given m c).x i j * (1 - (given m c).x i j))) := by
  have hI := given_filled m c
  obtain ⟨q0, q1, q2, q3⟩ := accsOut_quarters (stF (V3 m) c 64)
  rw [result_eq]
  funext z
  unfold energyOf
  rw [energy_apply, acc2_X1, inn2_X1, q0, q1, q2, q3, accTotal_apply, accTotal_apply, accTotal_apply, ne_final hI, pc_final hI, he_final hI]
  have E : ∀ {ne pc fl fl' bi bi' he : EReal}, fl = fl' → bi = bi' → energyAt ne pc fl bi he = energyAt ne pc fl' bi' he := by
    rintro _ _ _ _ _ _ _ rfl rfl; rfl
  refine E ?_ ?_
  · rw [rowTotal_apply, ← Fin.sum_univ_eq_sum_range (fun j => (given m c).gap _ _ j * (given m c).gap _ _ j)]
    refine Finset.sum_congr rfl fun J _ => ?_
    have h : deviation ((m ((c.tc : Thread nD τ).loc main_arg3) : IVec S_ 32) ix0) ((m ((c.tc : Thread nD τ).loc main_arg4) : IVec S_ 32) ix0)
        (out2 (X1 m) c) (stF (V3 m) c 64).cols (ix2 0 J) = (given m c).gap ((m ((c.tc : Thread nD τ).loc main_arg3) : IVec S_ 32) ix0) ((m ((c.tc : Thread nD τ).loc main_arg4) : IVec S_ 32) ix0) J.val := by
      rw [deviation_apply, cols_final hI, out2_X1]
      rfl
    exact congrArg₂ (· * ·) h h
  · rw [← binary_sums, ← x2_final hI, ← Fin.sum_univ_eq_sum_range (fun J => ∑ i ∈ Finset.range 8192, (given m c).x i J)]
    have h : rowTotal (Hopfield.colSums (stF (V3 m) c 64).cols) (ix2 0 0) = ∑ J : Fin 8192, ∑ i ∈ Finset.range 8192, (given m c).x i J.val := by
      rw [rowTotal_apply]
      exact Finset.sum_congr rfl fun J _ => (colSums_apply _ J).trans (cols_final hI J)
    exact congrArg₂ (· - ·) h (accTotal_apply _)

end Cert.KernelIdeal.Hopfield

end
-- ==== Proof.RefValue.lean ====
/-
  The reference's result, as the same formula over the entries of its arguments.
-/
module

public import proofs.«01_k».proof.Proof.RefRun
public import proofs.«01_k».proof.Proof.KernelValue

@[expose] public section

noncomputable section

namespace Cert.ReferenceIdeal.Hopfield

open Idealize.ShloMosaic Idealize.ShloMosaic.TcCoe Cert.ReferenceIdeal Cert.ReferenceIdeal.Gen Cert.Hopfield

/-- The sum of a matrix, as a sum over rows and columns. -/
theorem total_apply (x : FVec Ideal S8192x8192 .f32) : total x ix0 = ∑ i : Fin 8192, ∑ j : Fin 8192, x (ix2 i j) := by
  change S8192x8192.Idx → EReal at x
  pointwise [total, lone]

/-- The sum of a row, as a sum over the columns. -/
theorem rowSums_apply (x : FVec Ideal S8192x8192 .f32) (i : Fin 8192) : rowSums x (ix1 i) = ∑ j : Fin 8192, x (ix2 i j) := by
  change S8192x8192.Idx → EReal at x
  pointwise [rowSums, lone]

/-- The sum of a column, as a sum over the rows. -/
theorem colSums_apply (x : FVec Ideal S8192x8192 .f32) (j : Fin 8192) : colSums x (ix1 j) = ∑ i : Fin 8192, x (ix2 i j) := by
  change S8192x8192.Idx → EReal at x
  pointwise [colSums, lone]

/-- The vector that is 1 at a vertex: its entries. -/
theorem oneHot_apply (s : IVec S_ 32) (j : Fin 8192) : oneHot (F := Ideal) s (ix1 j) = hot (s ix0) j.val := by
  unfold hot
  pointwise [oneHot]
  show (((IntOp.cmpi CmpIPredicate.eq (s ix0) (BitVec.ofNat 32 j.val)).toNat : ℝ) : EReal) = _
  by_cases h : BitVec.ofNat 32 j.val = s ix0
  · simp [h, IntOp.cmpi]
  · have h' : (s ix0 == BitVec.ofNat 32 j.val) = false := beq_eq_false_iff_ne.2 (Ne.symm h)
    unfold IntOp.cmpi
    rw [if_neg h, h']
    simp

/-- An entry of the edge mask: 1 where the arc exists, else 0. -/
theorem validOf_apply (dm : FVec Ideal S8192x8192 .f32) (i j : Fin 8192) : validOf dm (ix2 i j) = edge (dm (ix2 i j)) := by
  change S8192x8192.Idx → EReal at dm
  unfold edge
  pointwise [validOf, fill]
  show (((BitVec.ofBool (decide (dm (ix2 i j) < Ideal.ofBits .f32 0x49742400#32))).toNat : ℝ) : EReal) = _
  by_cases h : dm (ix2 i j) < Ideal.ofBits .f32 0x49742400#32 <;> simp [h]

/-- An entry of the reference's `x`: the sigmoid of the logit over the temperature, times the mask. -/
theorem pathOf_apply (lg va : FVec Ideal S8192x8192 .f32) (i j : Fin 8192) :
    pathOf lg va (ix2 i j) = Ideal.div 1 (1 + Ideal.exp (-(Ideal.div (lg (ix2 i j)) (Ideal.ofBits .f32 0x3F000000#32)))) * va (ix2 i j) := by
  change S8192x8192.Idx → EReal at lg va
  pointwise [pathOf, fill]

/-- How much farther than `j` the vertex `i` is from the destination, or 0. -/
theorem fartherOf_apply (d : FVec Ideal S8192 .f32) (i j : Fin 8192) : fartherOf d (ix2 i j) = max (d (ix1 i) - d (ix1 j)) 0 := by
  change S8192.Idx → EReal at d
  pointwise [fartherOf, fill]

section

variable (lg dm : FVec Ideal S8192x8192 .f32) (d : FVec Ideal S8192 .f32)

/-- The entries of the reference's arguments. -/
abbrev entries : Cert.KernelIdeal.Hopfield.Inputs := Cert.KernelIdeal.Hopfield.inputs lg dm (fun i => d (ix1 i))

/-- A vertex's number, made a vertex again. -/
theorem ofNat_val (i : Fin 8192) : Fin.ofNat 8192 i.val = i := Fin.ext (Nat.mod_eq_of_lt i.isLt)

/-- The reference's `x` has the same entries as the kernel's. -/
theorem x_apply (i j : Fin 8192) : pathOf lg (validOf dm) (ix2 i j) = (entries lg dm d).x i.val j.val := by
  rw [pathOf_apply, validOf_apply, path_eq]
  show _ = path (lg (ix2 (Fin.ofNat 8192 i.val) (Fin.ofNat 8192 j.val))) (dm (ix2 (Fin.ofNat 8192 i.val) (Fin.ofNat 8192 j.val)))
  rw [ofNat_val, ofNat_val]

/-- The distance between two vertices, as an entry of the inputs. -/
theorem D_apply (i j : Fin 8192) : (entries lg dm d).D i.val j.val = dm (ix2 i j) := by
  show dm (ix2 (Fin.ofNat 8192 i.val) (Fin.ofNat 8192 j.val)) = _
  rw [ofNat_val, ofNat_val]

/-- The distance of a vertex to the destination, as an entry of the inputs. -/
theorem R_apply (i : Fin 8192) : (entries lg dm d).R i.val = d (ix1 i) := by
  show d (ix1 (Fin.ofNat 8192 i.val)) = _
  rw [ofNat_val]

/-- The sum of a matrix, as a sum over two ranges of numbers. -/
theorem total_range (x : FVec Ideal S8192x8192 .f32) (f : ℕ → ℕ → EReal) (h : ∀ i j : Fin 8192, x (ix2 i j) = f i.val j.val) :
    total x ix0 = ∑ i ∈ Finset.range 8192, ∑ j ∈ Finset.range 8192, f i j := by
  rw [total_apply, ← Fin.sum_univ_eq_sum_range (fun i => ∑ j ∈ Finset.range 8192, f i j)]
  refine Finset.sum_congr rfl fun i _ => ?_
  rw [← Fin.sum_univ_eq_sum_range (fun j => f i.val j)]
  exact Finset.sum_congr rfl fun j _ => h i j

/-- The flow's deviation at a vertex, from row sums, column sums and the target. -/
theorem gap_apply (s t : IVec S_ 32) (j : Fin 8192) :
    gapOf (pathOf lg (validOf dm)) s t (ix1 j) = (entries lg dm d).gap (s ix0) (t ix0) j.val := by
  have h : gapOf (pathOf lg (validOf dm)) s t (ix1 j)
      = (rowSums (pathOf lg (validOf dm)) (ix1 j) - colSums (pathOf lg (validOf dm)) (ix1 j)) - (oneHot (F := Ideal) s (ix1 j) - oneHot (F := Ideal) t (ix1 j)) := rfl
  rw [h, rowSums_apply, colSums_apply, oneHot_apply, oneHot_apply]
  unfold Cert.KernelIdeal.Hopfield.Inputs.gap
  rw [← Fin.sum_univ_eq_sum_range (fun k => (entries lg dm d).x j.val k), ← Fin.sum_univ_eq_sum_range (fun i => (entries lg dm d).x i j.val)]
  simp only [x_apply lg dm d]

/-- The flow penalty, as a sum of squares over the vertices. -/
theorem flowOf_apply (x : FVec Ideal S8192x8192 .f32) (s t : IVec S_ 32) :
    flowOf x s t ix0 = ∑ j : Fin 8192, gapOf x s t (ix1 j) * gapOf x s t (ix1 j) := by
  unfold flowOf
  generalize gapOf x s t = v
  change S8192.Idx → EReal at v
  pointwise [lone]

/-- The reference's combination of the five terms is the formula on five numbers. -/
theorem combine_apply (ne fl pc bi he : FVec Ideal S_ .f32) :
    combine ne (weightOf ne) (weightOf ne) fl pc bi (Host.divf he (lone 0x46000000#32)) ix0
      = energyAt (ne ix0) (pc ix0) (fl ix0) (bi ix0) (he ix0) := by
  change S_.Idx → EReal at ne fl pc bi he
  unfold energyAt weightAt
  have h : combine (F := Ideal) ne (weightOf ne) (weightOf ne) fl pc bi (Host.divf he (lone 0x46000000#32)) ix0
      = Ideal.div (Ideal.ofBits .f32 0x3F800000#32 * pc ix0) (ne ix0 + Ideal.ofBits .f32 0x358637BD#32)
        + Ideal.div (weightAt (ne ix0) * fl ix0) (Ideal.ofBits .f32 0x46000000#32)
        + Ideal.div (weightAt (ne ix0) * bi ix0) (Ideal.ofBits .f32 0x4C800000#32)
        - Ideal.ofBits .f32 0x3F000000#32 * Ideal.div (he ix0) (Ideal.ofBits .f32 0x46000000#32) := rfl
  rw [h, Ideal.ofBits_one_f32, one_mul]
  unfold weightAt
  rw [Ideal.ofBits_one_f32]

/-- The reference's energy over the entries of its arguments. -/
theorem energyR_value (co : FVec Ideal S8192x2 .f32) (s t : IVec S_ 32) (hd : distanceOf co (placeOf co t) = d) :
    energyR lg dm co s t = (fun _ : S_.Idx => (entries lg dm d).energy (s ix0) (t ix0)
      (∑ i ∈ Finset.range 8192, ∑ j ∈ Finset.range 8192, (entries lg dm d).x i j * (1 - (entries lg dm d).x i j))) := by
  funext z
  obtain rfl : z = ix0 := funext fun a => a.elim0
  unfold energyR heuristicOf
  rw [combine_apply, hd]
  unfold Cert.KernelIdeal.Hopfield.Inputs.energy
  have h1 : total (validOf dm) ix0 = ∑ i ∈ Finset.range 8192, ∑ j ∈ Finset.range 8192, (entries lg dm d).ne i j :=
    total_range _ _ fun i j => by rw [validOf_apply, Cert.KernelIdeal.Hopfield.Inputs.ne, D_apply]
  have h2 : total (mulf dm (pathOf lg (validOf dm))) ix0 = ∑ i ∈ Finset.range 8192, ∑ j ∈ Finset.range 8192, (entries lg dm d).pc i j :=
    total_range _ _ fun i j => by
      show dm (ix2 i j) * pathOf lg (validOf dm) (ix2 i j) = _
      rw [Cert.KernelIdeal.Hopfield.Inputs.pc, D_apply, x_apply lg dm d]
  have h3 : flowOf (pathOf lg (validOf dm)) s t ix0
      = ∑ j ∈ Finset.range 8192, (entries lg dm d).gap (s ix0) (t ix0) j * (entries lg dm d).gap (s ix0) (t ix0) j := by
    rw [flowOf_apply, ← Fin.sum_univ_eq_sum_range (fun j => (entries lg dm d).gap (s ix0) (t ix0) j * (entries lg dm d).gap (s ix0) (t ix0) j)]
    exact Finset.sum_congr rfl fun j _ => by rw [gap_apply lg dm d]
  have h4 : binaryOf (pathOf lg (validOf dm)) ix0
      = ∑ i ∈ Finset.range 8192, ∑ j ∈ Finset.range 8192, (entries lg dm d).x i j * (1 - (entries lg dm d).x i j) :=
    total_range _ _ fun i j => by
      show pathOf lg (validOf dm) (ix2 i j) * (Ideal.ofBits .f32 0x3F800000#32 - pathOf lg (validOf dm) (ix2 i j)) = _
      rw [Ideal.ofBits_one_f32, x_apply lg dm d]
  have h5 : total (mulf (pathOf lg (validOf dm)) (fartherOf d)) ix0 = ∑ i ∈ Finset.range 8192, ∑ j ∈ Finset.range 8192, (entries lg dm d).he i j :=
    total_range _ _ fun i j => by
      show pathOf lg (validOf dm) (ix2 i j) * fartherOf d (ix2 i j) = _
      rw [fartherOf_apply, Cert.KernelIdeal.Hopfield.Inputs.he, R_apply, R_apply, x_apply lg dm d]
  rw [h1, h2, h3, h4, h5]

end

end Cert.ReferenceIdeal.Hopfield

end
-- ==== Proof.Place.lean ====
/-
  The destination's coordinates: where the destination is an index, the host's look-up, which marks a missing row,
  finds what the reference's slice finds.
-/
module

public import proofs.«01_k».proof.Proof.RefValue
public import Idealize.ShloMosaic.Lib.Tactic.WordOmega

@[expose] public section

noncomputable section

namespace Cert.KernelIdeal.Hopfield

open Idealize.ShloMosaic Idealize.ShloMosaic.TcCoe Cert.KernelIdeal Cert.KernelIdeal.Gen Cert.Hopfield
open Idealize.SL.Sem

/-- The row that a word names, as the look-ups clamp it. -/
def rowAt (w : BitVec 32) : Fin 8192 := ⟨min w.toInt.toNat 8191, by omega⟩

/-- The gather of one row reads the row that the index names, moved into the range when it lies outside. -/
theorem gather_apply (co : FVec Ideal S8192x2 .f32) (i : IVec S1 32) (k : Fin 2) :
    Host.gather gather_S8192x2_S1_S2_0_0_n_n_0_0_12 co i (ix1 k) = co (ix2 (rowAt (i (ix1 0))) k) := by
  unfold Host.gather
  refine congrArg co (funext fun a => Fin.ext ?_)
  set d : GatherDims S8192x2 S1 S2 := gather_S8192x2_S1_S2_0_0_n_n_0_0_12 with hd
  have hob : ∀ a, a ∉ d.operandBatchingDims := fun a => by rw [show d.operandBatchingDims = [] from rfl]; exact List.not_mem_nil
  match a with
  | ⟨0, _⟩ =>
    have hk : (0 : Fin 2) ∉ d.sKept := fun h => ((d.mem_sKept 0).1 h).1 (List.mem_singleton.2 rfl)
    have hm : (0 : Fin 2) ∈ d.startIndexMap := List.mem_singleton.2 rfl
    show d.start (ix1 k) i 0 + d.batchCoord (ix1 k) 0 + d.offCoord (ix1 k) 0 = min (i (ix1 0)).toInt.toNat 8191
    rw [d.batchCoord_eq_zero _ _ (hob 0), d.offCoord_eq_zero _ _ hk]
    simp only [Nat.add_zero]
    unfold GatherDims.start
    rw [dif_pos hm]
    have hs : d.siIdx (ix1 k) ⟨d.startIndexMap.idxOf 0, List.idxOf_lt_length_iff.2 hm⟩ = ix1 0 :=
      funext fun b => Fin.ext (by
        obtain rfl : b = 0 := Subsingleton.elim (α := Fin 1) _ _
        have h1 : (d.siIdx (ix1 k) ⟨d.startIndexMap.idxOf 0, List.idxOf_lt_length_iff.2 hm⟩ 0).val < 1 := Fin.isLt _
        show (d.siIdx (ix1 k) ⟨d.startIndexMap.idxOf 0, List.idxOf_lt_length_iff.2 hm⟩ 0).val = 0
        omega)
    rw [hs]
    rfl
  | ⟨1, _⟩ =>
    have h10 : (1 : Fin 2) ∉ ([0] : List (Fin 2)) := by decide
    have hk : (1 : Fin 2) ∈ d.sKept := (d.mem_sKept 1).2 ⟨h10, hob 1⟩
    have hm : (1 : Fin 2) ∉ d.startIndexMap := h10
    show d.start (ix1 k) i 1 + d.batchCoord (ix1 k) 1 + d.offCoord (ix1 k) 1 = k.val
    rw [d.batchCoord_eq_zero _ _ (hob 1), Nat.add_zero]
    unfold GatherDims.start GatherDims.offCoord
    rw [dif_neg hm, dif_pos hk, Nat.zero_add]
    have e : ∀ X : Fin 1, (ix1 k X).val = k.val := fun X => by
      obtain rfl : X = 0 := Subsingleton.elim _ _
      rfl
    exact e _

/-- The reference's slice of one row reads the row that the wrapped index names, moved into the range when it
    lies outside. -/
theorem slice_apply (co : FVec Ideal S8192x2 .f32) (d : IVec S_ 32) (k : Fin 2) :
    Cert.ReferenceIdeal.Hopfield.placeOf co d (ix2 0 k) = co (ix2 (rowAt (rowK d ix0)) k) := by
  unfold Cert.ReferenceIdeal.Hopfield.placeOf
  rw [Host.dynamicSlice_apply]
  refine congrArg co (funext fun a => Fin.ext ?_)
  have hi : ∀ i : S_.Idx, i = ix0 := fun i => funext fun a => a.elim0
  match a with
  | ⟨0, _⟩ =>
    show (min (max (rowK d (Shape.Idx.first _)).toInt 0) ((8192 - 1 : ℕ) : Int)).toNat + 0 = min (rowK d ix0).toInt.toNat 8191
    rw [hi (Shape.Idx.first _)]
    omega
  | ⟨1, _⟩ =>
    show (min (max (BitVec.toInt (Cert.ReferenceIdeal.Hopfield.startOf (Shape.Idx.first Cert.ReferenceIdeal.Gen.h_S_))) 0) ((2 - 2 : ℕ) : Int)).toNat + k.val = k.val
    omega

/-- The precondition's one bit says that the destination lies between -8192 and 8191. -/
theorem range_of_pre (d : IVec S_ 32) (h : (andi (cmpi .sge d (constantI S_ 32 4294959104#32)) (cmpi .slt d (constantI S_ 32 8192#32))) ix0 = 1#1) :
    -8192 ≤ (d ix0).toInt ∧ (d ix0).toInt < 8192 := by
  have h' : IntOp.andi (IntOp.cmpi .sge (d ix0) 4294959104#32) (IntOp.cmpi .slt (d ix0) 8192#32) = 1#1 := h
  generalize d ix0 = w at h'
  constructor <;> word_omega

/-- For a destination in range, the kernel's test that the wrapped index is in range succeeds. -/
theorem insideK_eq (d : IVec S_ 32) (h : -8192 ≤ (d ix0).toInt ∧ (d ix0).toInt < 8192) : insideK d ix0 = 1#1 := by
  pointwise [insideK, rowK]
  rw [show (Finset.univ : Finset (Fin 1)) = {0} from rfl, Finset.fold_singleton]
  generalize d ix0 = w at h
  have h0 : 0 ≤ (Scalar.select (IntOp.cmpi .slt w 0#32) (IntOp.addi w 8192#32) w).toInt := by word_omega
  have h1 : (Scalar.select (IntOp.cmpi .slt w 0#32) (IntOp.addi w 8192#32) w).toInt ≤ 8191 := by word_omega
  generalize Scalar.select (IntOp.cmpi .slt w 0#32) (IntOp.addi w 8192#32) w = v at h0 h1
  have e0 : IntOp.cmpi .sge v 0#32 = 1#1 := by simp [IntOp.cmpi, BitVec.sle, h0]
  have e1 : IntOp.cmpi .sle v 8191#32 = 1#1 := by simp [IntOp.cmpi, BitVec.sle, h1]
  rw [e0, e1]
  rfl

/-- For a destination in range, the kernel's gather and the reference's slice read the same coordinates. -/
theorem place_eq (co : FVec Ideal S8192x2 .f32) (d : IVec S_ 32) (h : -8192 ≤ (d ix0).toInt ∧ (d ix0).toInt < 8192) :
    placeK co d = shapeCast S2 (Cert.ReferenceIdeal.Hopfield.placeOf co d) Cert.ReferenceIdeal.Gen.shapeCasts_S1x2_S2 := by
  funext j
  obtain ⟨k, rfl⟩ : ∃ k : Fin 2, j = ix1 k := ⟨j 0, eq_ix1 j⟩
  have hr : shapeCast S2 (Cert.ReferenceIdeal.Hopfield.placeOf co d) Cert.ReferenceIdeal.Gen.shapeCasts_S1x2_S2 (ix1 k)
      = Cert.ReferenceIdeal.Hopfield.placeOf co d (ix2 0 k) := by
    generalize Cert.ReferenceIdeal.Hopfield.placeOf co d = v
    change S1x2.Idx → EReal at v
    pointwise
  rw [hr, slice_apply]
  have hi := insideK_eq d h
  have hg := gather_apply co (broadcastInDim S1 ![] bcast_S_S1 (rowK d)) k
  unfold placeK
  generalize Host.gather gather_S8192x2_S1_S2_0_0_n_n_0_0_12 co (broadcastInDim S1 ![] bcast_S_S1 (rowK d)) = g at hg
  generalize insideK d = q at hi
  have hb : broadcastInDim S1 ![] bcast_S_S1 (rowK d) (ix1 0) = rowK d ix0 := by
    generalize rowK d = v
    pointwise
  rw [hb] at hg
  rw [← hg]
  change S2.Idx → EReal at g
  pointwise
  rw [hi]
  rfl

/-- The host's distances are the reference's. -/
theorem distances_eq (m : (ℓ : Loc nD τ sig) → Buf (Elt Ideal) ℓ) (c : Dev nD)
    (h : -8192 ≤ ((m ((c.tc : Thread nD τ).loc main_arg4) : IVec S_ 32) ix0).toInt ∧ ((m ((c.tc : Thread nD τ).loc main_arg4) : IVec S_ 32) ix0).toInt < 8192) :
    Cert.ReferenceIdeal.Hopfield.distanceOf (F := Ideal) (m ((c.tc : Thread nD τ).loc main_arg2))
      (Cert.ReferenceIdeal.Hopfield.placeOf (m ((c.tc : Thread nD τ).loc main_arg2)) (m ((c.tc : Thread nD τ).loc main_arg4))) = distances m c := by
  unfold distances
  rw [place_eq _ _ h]
  rfl

end Cert.KernelIdeal.Hopfield

end
-- ==== Proof.Algebraic.lean ====
/-
  The value claim: over the extended reals the kernel's result is the reference's, where the destination is an index.
-/
module

public import proofs.«01_k».proof.Proof.Frames
public import proofs.«01_k».proof.Proof.Place

@[expose] public section

noncomputable section

namespace Cert.Proof

open Idealize.ShloMosaic Idealize.SL.Sem Idealize.ShloMosaic.StableHlo

/-- The precondition's function states no side conditions. -/
theorem pre_facts : Cert.Pre_destination_is_an_index.Facts := ⟨⟩

/-- The kernel's result from a memory is the reference's energy of that memory's arguments. -/
theorem result_is_energy (m : (ℓ : Loc KernelIdeal.nD KernelIdeal.τ KernelIdeal.sig) → Buf (Elt Ideal) ℓ)
    (hm : Cert.Pre_KernelIdeal_destination_is_an_index (hPre_destination_is_an_index := pre_facts) m) (c : Dev KernelIdeal.nD) :
    KernelIdeal.Hopfield.result m c
      = ReferenceIdeal.Hopfield.energyR (F := Ideal) (m ((c.tc : Thread KernelIdeal.nD KernelIdeal.τ).loc KernelIdeal.main_arg0)) (m ((c.tc : Thread KernelIdeal.nD KernelIdeal.τ).loc KernelIdeal.main_arg1))
          (m ((c.tc : Thread KernelIdeal.nD KernelIdeal.τ).loc KernelIdeal.main_arg2)) (m ((c.tc : Thread KernelIdeal.nD KernelIdeal.τ).loc KernelIdeal.main_arg3))
          (m ((c.tc : Thread KernelIdeal.nD KernelIdeal.τ).loc KernelIdeal.main_arg4)) := by
  have hr := KernelIdeal.Hopfield.range_of_pre (m ((c.tc : Thread KernelIdeal.nD KernelIdeal.τ).loc KernelIdeal.main_arg4)) (congrFun (hm c) ix0)
  rw [KernelIdeal.Hopfield.result_value]
  exact (ReferenceIdeal.Hopfield.energyR_value _ _ _ _ _ _ (KernelIdeal.Hopfield.distances_eq m c hr)).symm

/-- The kernel's result is the reference's. -/
theorem algebraic : Cert.algebraic_KernelIdeal_ReferenceIdeal_pre_destination_is_an_index (hKernelIdeal := Cert.KernelIdeal.Gen.facts)
    (hReferenceIdeal := Cert.ReferenceIdeal.Gen.facts) (hPre_destination_is_an_index := pre_facts) := fun m g m' g' hm hargs => by
  refine ⟨fun c => KernelIdeal.Hopfield.result m c, ?_, ?_⟩
  · exact (θ_run _ _ _).2 (fun _ h c => h.1 c) (KernelIdeal.Hopfield.kernel_run m g)
  · refine (θ_run _ _ _).2 (fun r h c => ?_) (ReferenceIdeal.Hopfield.run (F := Ideal) m' g')
    refine ⟨?_, (h c _).trans (ReferenceIdeal.Hopfield.line_keeps (launchContents m' c) (by simp)), (h c _).trans (ReferenceIdeal.Hopfield.line_keeps (launchContents m' c) (by simp)),
      (h c _).trans (ReferenceIdeal.Hopfield.line_keeps (launchContents m' c) (by simp)), (h c _).trans (ReferenceIdeal.Hopfield.line_keeps (launchContents m' c) (by simp)),
      (h c _).trans (ReferenceIdeal.Hopfield.line_keeps (launchContents m' c) (by simp))⟩
    refine (h c _).trans ((ReferenceIdeal.Hopfield.line_v65 (launchContents m' c)).trans ?_)
    obtain ⟨h0, h1, h2, h3, h4⟩ := hargs c
    refine Eq.trans ?_ (result_is_energy m hm c).symm
    show ReferenceIdeal.Hopfield.energyR (F := Ideal) (m' ((c.tc : Thread ReferenceIdeal.nD ReferenceIdeal.τ).loc ReferenceIdeal.main_arg0)) (m' ((c.tc : Thread ReferenceIdeal.nD ReferenceIdeal.τ).loc ReferenceIdeal.main_arg1))
          (m' ((c.tc : Thread ReferenceIdeal.nD ReferenceIdeal.τ).loc ReferenceIdeal.main_arg2)) (m' ((c.tc : Thread ReferenceIdeal.nD ReferenceIdeal.τ).loc ReferenceIdeal.main_arg3))
          (m' ((c.tc : Thread ReferenceIdeal.nD ReferenceIdeal.τ).loc ReferenceIdeal.main_arg4)) = _
    rw [h0, h1, h2, h3, h4]

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

/-- The certificate's claim. -/
theorem claim : Cert.Claim := ⟨Cert.Kernel.Gen.facts, Cert.KernelIdeal.Gen.facts, Cert.ReferenceIdeal.Gen.facts, pre_facts,
  frame_Kernel, frame_KernelIdeal, fun m g _ => frame_KernelIdeal m g trivial, frame_ReferenceIdeal, fun m g _ => frame_ReferenceIdeal m g trivial,
  trivial, algebraic⟩

end Cert.Proof

end
